-- ==== Defs.lean ====
def Pre_Kernel [hPre_perm_0123_Kernel : Cert.Pre_perm_0123_Kernel.Facts] (m : (ℓ : Loc Cert.Kernel.nD Cert.Kernel.τ Cert.Kernel.sig) → Buf (Elt Bits) ℓ) : Prop :=
  ∀ c : Dev Cert.Kernel.nD,
    (Cert.Pre_perm_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_0132_Kernel [hPre_perm_0132_Kernel : Cert.Pre_perm_0132_Kernel.Facts] (m : (ℓ : Loc Cert.Kernel.nD Cert.Kernel.τ Cert.Kernel.sig) → Buf (Elt Bits) ℓ) : Prop :=
  ∀ c : Dev Cert.Kernel.nD,
    (Cert.Pre_perm_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_0213_Kernel [hPre_perm_0213_Kernel : Cert.Pre_perm_0213_Kernel.Facts] (m : (ℓ : Loc Cert.Kernel.nD Cert.Kernel.τ Cert.Kernel.sig) → Buf (Elt Bits) ℓ) : Prop :=
  ∀ c : Dev Cert.Kernel.nD,
    (Cert.Pre_perm_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_0231_Kernel [hPre_perm_0231_Kernel : Cert.Pre_perm_0231_Kernel.Facts] (m : (ℓ : Loc Cert.Kernel.nD Cert.Kernel.τ Cert.Kernel.sig) → Buf (Elt Bits) ℓ) : Prop :=
  ∀ c : Dev Cert.Kernel.nD,
    (Cert.Pre_perm_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_0312_Kernel [hPre_perm_0312_Kernel : Cert.Pre_perm_0312_Kernel.Facts] (m : (ℓ : Loc Cert.Kernel.nD Cert.Kernel.τ Cert.Kernel.sig) → Buf (Elt Bits) ℓ) : Prop :=
  ∀ c : Dev Cert.Kernel.nD,
    (Cert.Pre_perm_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_0321_Kernel [hPre_perm_0321_Kernel : Cert.Pre_perm_0321_Kernel.Facts] (m : (ℓ : Loc Cert.Kernel.nD Cert.Kernel.τ Cert.Kernel.sig) → Buf (Elt Bits) ℓ) : Prop :=
  ∀ c : Dev Cert.Kernel.nD,
    (Cert.Pre_perm_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_1023_Kernel [hPre_perm_1023_Kernel : Cert.Pre_perm_1023_Kernel.Facts] (m : (ℓ : Loc Cert.Kernel.nD Cert.Kernel.τ Cert.Kernel.sig) → Buf (Elt Bits) ℓ) : Prop :=
  ∀ c : Dev Cert.Kernel.nD,
    (Cert.Pre_perm_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_1032_Kernel [hPre_perm_1032_Kernel : Cert.Pre_perm_1032_Kernel.Facts] (m : (ℓ : Loc Cert.Kernel.nD Cert.Kernel.τ Cert.Kernel.sig) → Buf (Elt Bits) ℓ) : Prop :=
  ∀ c : Dev Cert.Kernel.nD,
    (Cert.Pre_perm_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_1203_Kernel [hPre_perm_1203_Kernel : Cert.Pre_perm_1203_Kernel.Facts] (m : (ℓ : Loc Cert.Kernel.nD Cert.Kernel.τ Cert.Kernel.sig) → Buf (Elt Bits) ℓ) : Prop :=
  ∀ c : Dev Cert.Kernel.nD,
    (Cert.Pre_perm_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_1230_Kernel [hPre_perm_1230_Kernel : Cert.Pre_perm_1230_Kernel.Facts] (m : (ℓ : Loc Cert.Kernel.nD Cert.Kernel.τ Cert.Kernel.sig) → Buf (Elt Bits) ℓ) : Prop :=
  ∀ c : Dev Cert.Kernel.nD,
    (Cert.Pre_perm_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_1302_Kernel [hPre_perm_1302_Kernel : Cert.Pre_perm_1302_Kernel.Facts] (m : (ℓ : Loc Cert.Kernel.nD Cert.Kernel.τ Cert.Kernel.sig) → Buf (Elt Bits) ℓ) : Prop :=
  ∀ c : Dev Cert.Kernel.nD,
    (Cert.Pre_perm_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_1320_Kernel [hPre_perm_1320_Kernel : Cert.Pre_perm_1320_Kernel.Facts] (m : (ℓ : Loc Cert.Kernel.nD Cert.Kernel.τ Cert.Kernel.sig) → Buf (Elt Bits) ℓ) : Prop :=
  ∀ c : Dev Cert.Kernel.nD,
    (Cert.Pre_perm_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_2013_Kernel [hPre_perm_2013_Kernel : Cert.Pre_perm_2013_Kernel.Facts] (m : (ℓ : Loc Cert.Kernel.nD Cert.Kernel.τ Cert.Kernel.sig) → Buf (Elt Bits) ℓ) : Prop :=
  ∀ c : Dev Cert.Kernel.nD,
    (Cert.Pre_perm_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_2031_Kernel [hPre_perm_2031_Kernel : Cert.Pre_perm_2031_Kernel.Facts] (m : (ℓ : Loc Cert.Kernel.nD Cert.Kernel.τ Cert.Kernel.sig) → Buf (Elt Bits) ℓ) : Prop :=
  ∀ c : Dev Cert.Kernel.nD,
    (Cert.Pre_perm_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_2103_Kernel [hPre_perm_2103_Kernel : Cert.Pre_perm_2103_Kernel.Facts] (m : (ℓ : Loc Cert.Kernel.nD Cert.Kernel.τ Cert.Kernel.sig) → Buf (Elt Bits) ℓ) : Prop :=
  ∀ c : Dev Cert.Kernel.nD,
    (Cert.Pre_perm_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_2130_Kernel [hPre_perm_2130_Kernel : Cert.Pre_perm_2130_Kernel.Facts] (m : (ℓ : Loc Cert.Kernel.nD Cert.Kernel.τ Cert.Kernel.sig) → Buf (Elt Bits) ℓ) : Prop :=
  ∀ c : Dev Cert.Kernel.nD,
    (Cert.Pre_perm_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_2301_Kernel [hPre_perm_2301_Kernel : Cert.Pre_perm_2301_Kernel.Facts] (m : (ℓ : Loc Cert.Kernel.nD Cert.Kernel.τ Cert.Kernel.sig) → Buf (Elt Bits) ℓ) : Prop :=
  ∀ c : Dev Cert.Kernel.nD,
    (Cert.Pre_perm_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_2310_Kernel [hPre_perm_2310_Kernel : Cert.Pre_perm_2310_Kernel.Facts] (m : (ℓ : Loc Cert.Kernel.nD Cert.Kernel.τ Cert.Kernel.sig) → Buf (Elt Bits) ℓ) : Prop :=
  ∀ c : Dev Cert.Kernel.nD,
    (Cert.Pre_perm_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_3012_Kernel [hPre_perm_3012_Kernel : Cert.Pre_perm_3012_Kernel.Facts] (m : (ℓ : Loc Cert.Kernel.nD Cert.Kernel.τ Cert.Kernel.sig) → Buf (Elt Bits) ℓ) : Prop :=
  ∀ c : Dev Cert.Kernel.nD,
    (Cert.Pre_perm_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_3021_Kernel [hPre_perm_3021_Kernel : Cert.Pre_perm_3021_Kernel.Facts] (m : (ℓ : Loc Cert.Kernel.nD Cert.Kernel.τ Cert.Kernel.sig) → Buf (Elt Bits) ℓ) : Prop :=
  ∀ c : Dev Cert.Kernel.nD,
    (Cert.Pre_perm_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_3102_Kernel [hPre_perm_3102_Kernel : Cert.Pre_perm_3102_Kernel.Facts] (m : (ℓ : Loc Cert.Kernel.nD Cert.Kernel.τ Cert.Kernel.sig) → Buf (Elt Bits) ℓ) : Prop :=
  ∀ c : Dev Cert.Kernel.nD,
    (Cert.Pre_perm_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_3120_Kernel [hPre_perm_3120_Kernel : Cert.Pre_perm_3120_Kernel.Facts] (m : (ℓ : Loc Cert.Kernel.nD Cert.Kernel.τ Cert.Kernel.sig) → Buf (Elt Bits) ℓ) : Prop :=
  ∀ c : Dev Cert.Kernel.nD,
    (Cert.Pre_perm_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_3201_Kernel [hPre_perm_3201_Kernel : Cert.Pre_perm_3201_Kernel.Facts] (m : (ℓ : Loc Cert.Kernel.nD Cert.Kernel.τ Cert.Kernel.sig) → Buf (Elt Bits) ℓ) : Prop :=
  ∀ c : Dev Cert.Kernel.nD,
    (Cert.Pre_perm_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_perm_3210_Kernel [hPre_perm_3210_Kernel : Cert.Pre_perm_3210_Kernel.Facts] (m : (ℓ : Loc Cert.Kernel.nD Cert.Kernel.τ Cert.Kernel.sig) → Buf (Elt Bits) ℓ) : Prop :=
  ∀ c : Dev Cert.Kernel.nD,
    (Cert.Pre_perm_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_perm_0123_Kernel : Cert.Pre_perm_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_0132_Kernel [hPre_perm_0132_Kernel : Cert.Pre_perm_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_0213_Kernel [hPre_perm_0213_Kernel : Cert.Pre_perm_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_0231_Kernel [hPre_perm_0231_Kernel : Cert.Pre_perm_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_0312_Kernel [hPre_perm_0312_Kernel : Cert.Pre_perm_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_0321_Kernel [hPre_perm_0321_Kernel : Cert.Pre_perm_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_1023_Kernel [hPre_perm_1023_Kernel : Cert.Pre_perm_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_1032_Kernel [hPre_perm_1032_Kernel : Cert.Pre_perm_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_1203_Kernel [hPre_perm_1203_Kernel : Cert.Pre_perm_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_1230_Kernel [hPre_perm_1230_Kernel : Cert.Pre_perm_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_1302_Kernel [hPre_perm_1302_Kernel : Cert.Pre_perm_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_1320_Kernel [hPre_perm_1320_Kernel : Cert.Pre_perm_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_2013_Kernel [hPre_perm_2013_Kernel : Cert.Pre_perm_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_2031_Kernel [hPre_perm_2031_Kernel : Cert.Pre_perm_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_2103_Kernel [hPre_perm_2103_Kernel : Cert.Pre_perm_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_2130_Kernel [hPre_perm_2130_Kernel : Cert.Pre_perm_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_2301_Kernel [hPre_perm_2301_Kernel : Cert.Pre_perm_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_2310_Kernel [hPre_perm_2310_Kernel : Cert.Pre_perm_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_3012_Kernel [hPre_perm_3012_Kernel : Cert.Pre_perm_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_3021_Kernel [hPre_perm_3021_Kernel : Cert.Pre_perm_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_3102_Kernel [hPre_perm_3102_Kernel : Cert.Pre_perm_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_3120_Kernel [hPre_perm_3120_Kernel : Cert.Pre_perm_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_3201_Kernel [hPre_perm_3201_Kernel : Cert.Pre_perm_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_perm_3210_Kernel [hPre_perm_3210_Kernel : Cert.Pre_perm_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_perm_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_perm_0123_Reference [hPre_perm_0123_Reference : Cert.Pre_perm_0123_Reference.Facts] (m : (ℓ : Loc Cert.Reference.nD Cert.Reference.τ Cert.Reference.sig) → Buf (Elt Bits) ℓ) : Prop :=
  ∀ c : Dev Cert.Reference.nD,
    (Cert.Pre_perm_0123_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_0132_Reference [hPre_perm_0132_Reference : Cert.Pre_perm_0132_Reference.Facts] (m : (ℓ : Loc Cert.Reference.nD Cert.Reference.τ Cert.Reference.sig) → Buf (Elt Bits) ℓ) : Prop :=
  ∀ c : Dev Cert.Reference.nD,
    (Cert.Pre_perm_0132_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_0213_Reference [hPre_perm_0213_Reference : Cert.Pre_perm_0213_Reference.Facts] (m : (ℓ : Loc Cert.Reference.nD Cert.Reference.τ Cert.Reference.sig) → Buf (Elt Bits) ℓ) : Prop :=
  ∀ c : Dev Cert.Reference.nD,
    (Cert.Pre_perm_0213_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_0231_Reference [hPre_perm_0231_Reference : Cert.Pre_perm_0231_Reference.Facts] (m : (ℓ : Loc Cert.Reference.nD Cert.Reference.τ Cert.Reference.sig) → Buf (Elt Bits) ℓ) : Prop :=
  ∀ c : Dev Cert.Reference.nD,
    (Cert.Pre_perm_0231_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_0312_Reference [hPre_perm_0312_Reference : Cert.Pre_perm_0312_Reference.Facts] (m : (ℓ : Loc Cert.Reference.nD Cert.Reference.τ Cert.Reference.sig) → Buf (Elt Bits) ℓ) : Prop :=
  ∀ c : Dev Cert.Reference.nD,
    (Cert.Pre_perm_0312_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_0321_Reference [hPre_perm_0321_Reference : Cert.Pre_perm_0321_Reference.Facts] (m : (ℓ : Loc Cert.Reference.nD Cert.Reference.τ Cert.Reference.sig) → Buf (Elt Bits) ℓ) : Prop :=
  ∀ c : Dev Cert.Reference.nD,
    (Cert.Pre_perm_0321_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_1023_Reference [hPre_perm_1023_Reference : Cert.Pre_perm_1023_Reference.Facts] (m : (ℓ : Loc Cert.Reference.nD Cert.Reference.τ Cert.Reference.sig) → Buf (Elt Bits) ℓ) : Prop :=
  ∀ c : Dev Cert.Reference.nD,
    (Cert.Pre_perm_1023_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_1032_Reference [hPre_perm_1032_Reference : Cert.Pre_perm_1032_Reference.Facts] (m : (ℓ : Loc Cert.Reference.nD Cert.Reference.τ Cert.Reference.sig) → Buf (Elt Bits) ℓ) : Prop :=
  ∀ c : Dev Cert.Reference.nD,
    (Cert.Pre_perm_1032_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_1203_Reference [hPre_perm_1203_Reference : Cert.Pre_perm_1203_Reference.Facts] (m : (ℓ : Loc Cert.Reference.nD Cert.Reference.τ Cert.Reference.sig) → Buf (Elt Bits) ℓ) : Prop :=
  ∀ c : Dev Cert.Reference.nD,
    (Cert.Pre_perm_1203_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_1230_Reference [hPre_perm_1230_Reference : Cert.Pre_perm_1230_Reference.Facts] (m : (ℓ : Loc Cert.Reference.nD Cert.Reference.τ Cert.Reference.sig) → Buf (Elt Bits) ℓ) : Prop :=
  ∀ c : Dev Cert.Reference.nD,
    (Cert.Pre_perm_1230_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_1302_Reference [hPre_perm_1302_Reference : Cert.Pre_perm_1302_Reference.Facts] (m : (ℓ : Loc Cert.Reference.nD Cert.Reference.τ Cert.Reference.sig) → Buf (Elt Bits) ℓ) : Prop :=
  ∀ c : Dev Cert.Reference.nD,
    (Cert.Pre_perm_1302_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_1320_Reference [hPre_perm_1320_Reference : Cert.Pre_perm_1320_Reference.Facts] (m : (ℓ : Loc Cert.Reference.nD Cert.Reference.τ Cert.Reference.sig) → Buf (Elt Bits) ℓ) : Prop :=
  ∀ c : Dev Cert.Reference.nD,
    (Cert.Pre_perm_1320_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_2013_Reference [hPre_perm_2013_Reference : Cert.Pre_perm_2013_Reference.Facts] (m : (ℓ : Loc Cert.Reference.nD Cert.Reference.τ Cert.Reference.sig) → Buf (Elt Bits) ℓ) : Prop :=
  ∀ c : Dev Cert.Reference.nD,
    (Cert.Pre_perm_2013_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_2031_Reference [hPre_perm_2031_Reference : Cert.Pre_perm_2031_Reference.Facts] (m : (ℓ : Loc Cert.Reference.nD Cert.Reference.τ Cert.Reference.sig) → Buf (Elt Bits) ℓ) : Prop :=
  ∀ c : Dev Cert.Reference.nD,
    (Cert.Pre_perm_2031_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_2103_Reference [hPre_perm_2103_Reference : Cert.Pre_perm_2103_Reference.Facts] (m : (ℓ : Loc Cert.Reference.nD Cert.Reference.τ Cert.Reference.sig) → Buf (Elt Bits) ℓ) : Prop :=
  ∀ c : Dev Cert.Reference.nD,
    (Cert.Pre_perm_2103_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_2130_Reference [hPre_perm_2130_Reference : Cert.Pre_perm_2130_Reference.Facts] (m : (ℓ : Loc Cert.Reference.nD Cert.Reference.τ Cert.Reference.sig) → Buf (Elt Bits) ℓ) : Prop :=
  ∀ c : Dev Cert.Reference.nD,
    (Cert.Pre_perm_2130_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_2301_Reference [hPre_perm_2301_Reference : Cert.Pre_perm_2301_Reference.Facts] (m : (ℓ : Loc Cert.Reference.nD Cert.Reference.τ Cert.Reference.sig) → Buf (Elt Bits) ℓ) : Prop :=
  ∀ c : Dev Cert.Reference.nD,
    (Cert.Pre_perm_2301_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_2310_Reference [hPre_perm_2310_Reference : Cert.Pre_perm_2310_Reference.Facts] (m : (ℓ : Loc Cert.Reference.nD Cert.Reference.τ Cert.Reference.sig) → Buf (Elt Bits) ℓ) : Prop :=
  ∀ c : Dev Cert.Reference.nD,
    (Cert.Pre_perm_2310_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_3012_Reference [hPre_perm_3012_Reference : Cert.Pre_perm_3012_Reference.Facts] (m : (ℓ : Loc Cert.Reference.nD Cert.Reference.τ Cert.Reference.sig) → Buf (Elt Bits) ℓ) : Prop :=
  ∀ c : Dev Cert.Reference.nD,
    (Cert.Pre_perm_3012_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_3021_Reference [hPre_perm_3021_Reference : Cert.Pre_perm_3021_Reference.Facts] (m : (ℓ : Loc Cert.Reference.nD Cert.Reference.τ Cert.Reference.sig) → Buf (Elt Bits) ℓ) : Prop :=
  ∀ c : Dev Cert.Reference.nD,
    (Cert.Pre_perm_3021_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_3102_Reference [hPre_perm_3102_Reference : Cert.Pre_perm_3102_Reference.Facts] (m : (ℓ : Loc Cert.Reference.nD Cert.Reference.τ Cert.Reference.sig) → Buf (Elt Bits) ℓ) : Prop :=
  ∀ c : Dev Cert.Reference.nD,
    (Cert.Pre_perm_3102_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_3120_Reference [hPre_perm_3120_Reference : Cert.Pre_perm_3120_Reference.Facts] (m : (ℓ : Loc Cert.Reference.nD Cert.Reference.τ Cert.Reference.sig) → Buf (Elt Bits) ℓ) : Prop :=
  ∀ c : Dev Cert.Reference.nD,
    (Cert.Pre_perm_3120_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_3201_Reference [hPre_perm_3201_Reference : Cert.Pre_perm_3201_Reference.Facts] (m : (ℓ : Loc Cert.Reference.nD Cert.Reference.τ Cert.Reference.sig) → Buf (Elt Bits) ℓ) : Prop :=
  ∀ c : Dev Cert.Reference.nD,
    (Cert.Pre_perm_3201_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Reference_perm_3210_Reference [hPre_perm_3210_Reference : Cert.Pre_perm_3210_Reference.Facts] (m : (ℓ : Loc Cert.Reference.nD Cert.Reference.τ Cert.Reference.sig) → Buf (Elt Bits) ℓ) : Prop :=
  ∀ c : Dev Cert.Reference.nD,
    (Cert.Pre_perm_3210_Reference.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_perm_0123_Reference [hPre_perm_0123_Reference : Cert.Pre_perm_0123_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_0123_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_0132_Reference [hPre_perm_0132_Reference : Cert.Pre_perm_0132_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_0132_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_0213_Reference [hPre_perm_0213_Reference : Cert.Pre_perm_0213_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_0213_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_0231_Reference [hPre_perm_0231_Reference : Cert.Pre_perm_0231_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_0231_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_0312_Reference [hPre_perm_0312_Reference : Cert.Pre_perm_0312_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_0312_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_0321_Reference [hPre_perm_0321_Reference : Cert.Pre_perm_0321_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_0321_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_1023_Reference [hPre_perm_1023_Reference : Cert.Pre_perm_1023_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_1023_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_1032_Reference [hPre_perm_1032_Reference : Cert.Pre_perm_1032_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_1032_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_1203_Reference [hPre_perm_1203_Reference : Cert.Pre_perm_1203_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_1203_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_1230_Reference [hPre_perm_1230_Reference : Cert.Pre_perm_1230_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_1230_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_1302_Reference [hPre_perm_1302_Reference : Cert.Pre_perm_1302_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_1302_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_1320_Reference [hPre_perm_1320_Reference : Cert.Pre_perm_1320_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_1320_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_2013_Reference [hPre_perm_2013_Reference : Cert.Pre_perm_2013_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_2013_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_2031_Reference [hPre_perm_2031_Reference : Cert.Pre_perm_2031_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_2031_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_2103_Reference [hPre_perm_2103_Reference : Cert.Pre_perm_2103_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_2103_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_2130_Reference [hPre_perm_2130_Reference : Cert.Pre_perm_2130_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_2130_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_2301_Reference [hPre_perm_2301_Reference : Cert.Pre_perm_2301_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_2301_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_2310_Reference [hPre_perm_2310_Reference : Cert.Pre_perm_2310_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_2310_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_3012_Reference [hPre_perm_3012_Reference : Cert.Pre_perm_3012_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_3012_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_3021_Reference [hPre_perm_3021_Reference : Cert.Pre_perm_3021_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_3021_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_3102_Reference [hPre_perm_3102_Reference : Cert.Pre_perm_3102_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_3102_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_3120_Reference [hPre_perm_3120_Reference : Cert.Pre_perm_3120_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_3120_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_3201_Reference [hPre_perm_3201_Reference : Cert.Pre_perm_3201_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_3201_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_perm_3210_Reference [hPre_perm_3210_Reference : Cert.Pre_perm_3210_Reference.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_3210_Reference.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_perm_0123_Kernel : Cert.Pre_perm_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_0132_Kernel [hKernel : Cert.Kernel.Facts] [hPre_perm_0132_Kernel : Cert.Pre_perm_0132_Kernel.Facts] : Prop :=
  ∀ (m : (ℓ : Loc Cert.Kernel.nD Cert.Kernel.τ Cert.Kernel.sig) → Buf (Elt Bits) ℓ) (g : Dev Cert.Kernel.nD → PrngReg), Pre_Kernel_perm_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_0213_Kernel [hKernel : Cert.Kernel.Facts] [hPre_perm_0213_Kernel : Cert.Pre_perm_0213_Kernel.Facts] : Prop :=
  ∀ (m : (ℓ : Loc Cert.Kernel.nD Cert.Kernel.τ Cert.Kernel.sig) → Buf (Elt Bits) ℓ) (g : Dev Cert.Kernel.nD → PrngReg), Pre_Kernel_perm_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_0231_Kernel [hKernel : Cert.Kernel.Facts] [hPre_perm_0231_Kernel : Cert.Pre_perm_0231_Kernel.Facts] : Prop :=
  ∀ (m : (ℓ : Loc Cert.Kernel.nD Cert.Kernel.τ Cert.Kernel.sig) → Buf (Elt Bits) ℓ) (g : Dev Cert.Kernel.nD → PrngReg), Pre_Kernel_perm_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_0312_Kernel [hKernel : Cert.Kernel.Facts] [hPre_perm_0312_Kernel : Cert.Pre_perm_0312_Kernel.Facts] : Prop :=
  ∀ (m : (ℓ : Loc Cert.Kernel.nD Cert.Kernel.τ Cert.Kernel.sig) → Buf (Elt Bits) ℓ) (g : Dev Cert.Kernel.nD → PrngReg), Pre_Kernel_perm_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_0321_Kernel [hKernel : Cert.Kernel.Facts] [hPre_perm_0321_Kernel : Cert.Pre_perm_0321_Kernel.Facts] : Prop :=
  ∀ (m : (ℓ : Loc Cert.Kernel.nD Cert.Kernel.τ Cert.Kernel.sig) → Buf (Elt Bits) ℓ) (g : Dev Cert.Kernel.nD → PrngReg), Pre_Kernel_perm_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_1023_Kernel [hKernel : Cert.Kernel.Facts] [hPre_perm_1023_Kernel : Cert.Pre_perm_1023_Kernel.Facts] : Prop :=
  ∀ (m : (ℓ : Loc Cert.Kernel.nD Cert.Kernel.τ Cert.Kernel.sig) → Buf (Elt Bits) ℓ) (g : Dev Cert.Kernel.nD → PrngReg), Pre_Kernel_perm_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_1032_Kernel [hKernel : Cert.Kernel.Facts] [hPre_perm_1032_Kernel : Cert.Pre_perm_1032_Kernel.Facts] : Prop :=
  ∀ (m : (ℓ : Loc Cert.Kernel.nD Cert.Kernel.τ Cert.Kernel.sig) → Buf (Elt Bits) ℓ) (g : Dev Cert.Kernel.nD → PrngReg), Pre_Kernel_perm_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_1203_Kernel [hKernel : Cert.Kernel.Facts] [hPre_perm_1203_Kernel : Cert.Pre_perm_1203_Kernel.Facts] : Prop :=
  ∀ (m : (ℓ : Loc Cert.Kernel.nD Cert.Kernel.τ Cert.Kernel.sig) → Buf (Elt Bits) ℓ) (g : Dev Cert.Kernel.nD → PrngReg), Pre_Kernel_perm_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_1230_Kernel [hKernel : Cert.Kernel.Facts] [hPre_perm_1230_Kernel : Cert.Pre_perm_1230_Kernel.Facts] : Prop :=
  ∀ (m : (ℓ : Loc Cert.Kernel.nD Cert.Kernel.τ Cert.Kernel.sig) → Buf (Elt Bits) ℓ) (g : Dev Cert.Kernel.nD → PrngReg), Pre_Kernel_perm_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_1302_Kernel [hKernel : Cert.Kernel.Facts] [hPre_perm_1302_Kernel : Cert.Pre_perm_1302_Kernel.Facts] : Prop :=
  ∀ (m : (ℓ : Loc Cert.Kernel.nD Cert.Kernel.τ Cert.Kernel.sig) → Buf (Elt Bits) ℓ) (g : Dev Cert.Kernel.nD → PrngReg), Pre_Kernel_perm_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_1320_Kernel [hKernel : Cert.Kernel.Facts] [hPre_perm_1320_Kernel : Cert.Pre_perm_1320_Kernel.Facts] : Prop :=
  ∀ (m : (ℓ : Loc Cert.Kernel.nD Cert.Kernel.τ Cert.Kernel.sig) → Buf (Elt Bits) ℓ) (g : Dev Cert.Kernel.nD → PrngReg), Pre_Kernel_perm_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_2013_Kernel [hKernel : Cert.Kernel.Facts] [hPre_perm_2013_Kernel : Cert.Pre_perm_2013_Kernel.Facts] : Prop :=
  ∀ (m : (ℓ : Loc Cert.Kernel.nD Cert.Kernel.τ Cert.Kernel.sig) → Buf (Elt Bits) ℓ) (g : Dev Cert.Kernel.nD → PrngReg), Pre_Kernel_perm_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_2031_Kernel [hKernel : Cert.Kernel.Facts] [hPre_perm_2031_Kernel : Cert.Pre_perm_2031_Kernel.Facts] : Prop :=
  ∀ (m : (ℓ : Loc Cert.Kernel.nD Cert.Kernel.τ Cert.Kernel.sig) → Buf (Elt Bits) ℓ) (g : Dev Cert.Kernel.nD → PrngReg), Pre_Kernel_perm_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_2103_Kernel [hKernel : Cert.Kernel.Facts] [hPre_perm_2103_Kernel : Cert.Pre_perm_2103_Kernel.Facts] : Prop :=
  ∀ (m : (ℓ : Loc Cert.Kernel.nD Cert.Kernel.τ Cert.Kernel.sig) → Buf (Elt Bits) ℓ) (g : Dev Cert.Kernel.nD → PrngReg), Pre_Kernel_perm_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_2130_Kernel [hKernel : Cert.Kernel.Facts] [hPre_perm_2130_Kernel : Cert.Pre_perm_2130_Kernel.Facts] : Prop :=
  ∀ (m : (ℓ : Loc Cert.Kernel.nD Cert.Kernel.τ Cert.Kernel.sig) → Buf (Elt Bits) ℓ) (g : Dev Cert.Kernel.nD → PrngReg), Pre_Kernel_perm_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_2301_Kernel [hKernel : Cert.Kernel.Facts] [hPre_perm_2301_Kernel : Cert.Pre_perm_2301_Kernel.Facts] : Prop :=
  ∀ (m : (ℓ : Loc Cert.Kernel.nD Cert.Kernel.τ Cert.Kernel.sig) → Buf (Elt Bits) ℓ) (g : Dev Cert.Kernel.nD → PrngReg), Pre_Kernel_perm_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_2310_Kernel [hKernel : Cert.Kernel.Facts] [hPre_perm_2310_Kernel : Cert.Pre_perm_2310_Kernel.Facts] : Prop :=
  ∀ (m : (ℓ : Loc Cert.Kernel.nD Cert.Kernel.τ Cert.Kernel.sig) → Buf (Elt Bits) ℓ) (g : Dev Cert.Kernel.nD → PrngReg), Pre_Kernel_perm_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_3012_Kernel [hKernel : Cert.Kernel.Facts] [hPre_perm_3012_Kernel : Cert.Pre_perm_3012_Kernel.Facts] : Prop :=
  ∀ (m : (ℓ : Loc Cert.Kernel.nD Cert.Kernel.τ Cert.Kernel.sig) → Buf (Elt Bits) ℓ) (g : Dev Cert.Kernel.nD → PrngReg), Pre_Kernel_perm_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_3021_Kernel [hKernel : Cert.Kernel.Facts] [hPre_perm_3021_Kernel : Cert.Pre_perm_3021_Kernel.Facts] : Prop :=
  ∀ (m : (ℓ : Loc Cert.Kernel.nD Cert.Kernel.τ Cert.Kernel.sig) → Buf (Elt Bits) ℓ) (g : Dev Cert.Kernel.nD → PrngReg), Pre_Kernel_perm_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_3102_Kernel [hKernel : Cert.Kernel.Facts] [hPre_perm_3102_Kernel : Cert.Pre_perm_3102_Kernel.Facts] : Prop :=
  ∀ (m : (ℓ : Loc Cert.Kernel.nD Cert.Kernel.τ Cert.Kernel.sig) → Buf (Elt Bits) ℓ) (g : Dev Cert.Kernel.nD → PrngReg), Pre_Kernel_perm_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_3120_Kernel [hKernel : Cert.Kernel.Facts] [hPre_perm_3120_Kernel : Cert.Pre_perm_3120_Kernel.Facts] : Prop :=
  ∀ (m : (ℓ : Loc Cert.Kernel.nD Cert.Kernel.τ Cert.Kernel.sig) → Buf (Elt Bits) ℓ) (g : Dev Cert.Kernel.nD → PrngReg), Pre_Kernel_perm_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_3201_Kernel [hKernel : Cert.Kernel.Facts] [hPre_perm_3201_Kernel : Cert.Pre_perm_3201_Kernel.Facts] : Prop :=
  ∀ (m : (ℓ : Loc Cert.Kernel.nD Cert.Kernel.τ Cert.Kernel.sig) → Buf (Elt Bits) ℓ) (g : Dev Cert.Kernel.nD → PrngReg), Pre_Kernel_perm_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_perm_3210_Kernel [hKernel : Cert.Kernel.Facts] [hPre_perm_3210_Kernel : Cert.Pre_perm_3210_Kernel.Facts] : Prop :=
  ∀ (m : (ℓ : Loc Cert.Kernel.nD Cert.Kernel.τ Cert.Kernel.sig) → Buf (Elt Bits) ℓ) (g : Dev Cert.Kernel.nD → PrngReg), Pre_Kernel_perm_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_perm_0123_Kernel : Cert.Pre_perm_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_0132_Kernel [hKernelIdeal : Cert.KernelIdeal.Facts] [hPre_perm_0132_Kernel : Cert.Pre_perm_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_0213_Kernel [hKernelIdeal : Cert.KernelIdeal.Facts] [hPre_perm_0213_Kernel : Cert.Pre_perm_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_0231_Kernel [hKernelIdeal : Cert.KernelIdeal.Facts] [hPre_perm_0231_Kernel : Cert.Pre_perm_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_0312_Kernel [hKernelIdeal : Cert.KernelIdeal.Facts] [hPre_perm_0312_Kernel : Cert.Pre_perm_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_0321_Kernel [hKernelIdeal : Cert.KernelIdeal.Facts] [hPre_perm_0321_Kernel : Cert.Pre_perm_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_1023_Kernel [hKernelIdeal : Cert.KernelIdeal.Facts] [hPre_perm_1023_Kernel : Cert.Pre_perm_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_1032_Kernel [hKernelIdeal : Cert.KernelIdeal.Facts] [hPre_perm_1032_Kernel : Cert.Pre_perm_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_1203_Kernel [hKernelIdeal : Cert.KernelIdeal.Facts] [hPre_perm_1203_Kernel : Cert.Pre_perm_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_1230_Kernel [hKernelIdeal : Cert.KernelIdeal.Facts] [hPre_perm_1230_Kernel : Cert.Pre_perm_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_1302_Kernel [hKernelIdeal : Cert.KernelIdeal.Facts] [hPre_perm_1302_Kernel : Cert.Pre_perm_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_1320_Kernel [hKernelIdeal : Cert.KernelIdeal.Facts] [hPre_perm_1320_Kernel : Cert.Pre_perm_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_2013_Kernel [hKernelIdeal : Cert.KernelIdeal.Facts] [hPre_perm_2013_Kernel : Cert.Pre_perm_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_2031_Kernel [hKernelIdeal : Cert.KernelIdeal.Facts] [hPre_perm_2031_Kernel : Cert.Pre_perm_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_2103_Kernel [hKernelIdeal : Cert.KernelIdeal.Facts] [hPre_perm_2103_Kernel : Cert.Pre_perm_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_2130_Kernel [hKernelIdeal : Cert.KernelIdeal.Facts] [hPre_perm_2130_Kernel : Cert.Pre_perm_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_2301_Kernel [hKernelIdeal : Cert.KernelIdeal.Facts] [hPre_perm_2301_Kernel : Cert.Pre_perm_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_2310_Kernel [hKernelIdeal : Cert.KernelIdeal.Facts] [hPre_perm_2310_Kernel : Cert.Pre_perm_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_3012_Kernel [hKernelIdeal : Cert.KernelIdeal.Facts] [hPre_perm_3012_Kernel : Cert.Pre_perm_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_3021_Kernel [hKernelIdeal : Cert.KernelIdeal.Facts] [hPre_perm_3021_Kernel : Cert.Pre_perm_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_3102_Kernel [hKernelIdeal : Cert.KernelIdeal.Facts] [hPre_perm_3102_Kernel : Cert.Pre_perm_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_3120_Kernel [hKernelIdeal : Cert.KernelIdeal.Facts] [hPre_perm_3120_Kernel : Cert.Pre_perm_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_3201_Kernel [hKernelIdeal : Cert.KernelIdeal.Facts] [hPre_perm_3201_Kernel : Cert.Pre_perm_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_perm_3210_Kernel [hKernelIdeal : Cert.KernelIdeal.Facts] [hPre_perm_3210_Kernel : Cert.Pre_perm_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_perm_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_0123_Reference [hReference : Cert.Reference.Facts] [hPre_perm_0123_Reference : Cert.Pre_perm_0123_Reference.Facts] : Prop :=
  ∀ (m : (ℓ : Loc Cert.Reference.nD Cert.Reference.τ Cert.Reference.sig) → Buf (Elt Bits) ℓ) (g : Dev Cert.Reference.nD → PrngReg), Pre_Reference_perm_0123_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_0132_Reference [hReference : Cert.Reference.Facts] [hPre_perm_0132_Reference : Cert.Pre_perm_0132_Reference.Facts] : Prop :=
  ∀ (m : (ℓ : Loc Cert.Reference.nD Cert.Reference.τ Cert.Reference.sig) → Buf (Elt Bits) ℓ) (g : Dev Cert.Reference.nD → PrngReg), Pre_Reference_perm_0132_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_0213_Reference [hReference : Cert.Reference.Facts] [hPre_perm_0213_Reference : Cert.Pre_perm_0213_Reference.Facts] : Prop :=
  ∀ (m : (ℓ : Loc Cert.Reference.nD Cert.Reference.τ Cert.Reference.sig) → Buf (Elt Bits) ℓ) (g : Dev Cert.Reference.nD → PrngReg), Pre_Reference_perm_0213_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_0231_Reference [hReference : Cert.Reference.Facts] [hPre_perm_0231_Reference : Cert.Pre_perm_0231_Reference.Facts] : Prop :=
  ∀ (m : (ℓ : Loc Cert.Reference.nD Cert.Reference.τ Cert.Reference.sig) → Buf (Elt Bits) ℓ) (g : Dev Cert.Reference.nD → PrngReg), Pre_Reference_perm_0231_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_0312_Reference [hReference : Cert.Reference.Facts] [hPre_perm_0312_Reference : Cert.Pre_perm_0312_Reference.Facts] : Prop :=
  ∀ (m : (ℓ : Loc Cert.Reference.nD Cert.Reference.τ Cert.Reference.sig) → Buf (Elt Bits) ℓ) (g : Dev Cert.Reference.nD → PrngReg), Pre_Reference_perm_0312_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_0321_Reference [hReference : Cert.Reference.Facts] [hPre_perm_0321_Reference : Cert.Pre_perm_0321_Reference.Facts] : Prop :=
  ∀ (m : (ℓ : Loc Cert.Reference.nD Cert.Reference.τ Cert.Reference.sig) → Buf (Elt Bits) ℓ) (g : Dev Cert.Reference.nD → PrngReg), Pre_Reference_perm_0321_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_1023_Reference [hReference : Cert.Reference.Facts] [hPre_perm_1023_Reference : Cert.Pre_perm_1023_Reference.Facts] : Prop :=
  ∀ (m : (ℓ : Loc Cert.Reference.nD Cert.Reference.τ Cert.Reference.sig) → Buf (Elt Bits) ℓ) (g : Dev Cert.Reference.nD → PrngReg), Pre_Reference_perm_1023_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_1032_Reference [hReference : Cert.Reference.Facts] [hPre_perm_1032_Reference : Cert.Pre_perm_1032_Reference.Facts] : Prop :=
  ∀ (m : (ℓ : Loc Cert.Reference.nD Cert.Reference.τ Cert.Reference.sig) → Buf (Elt Bits) ℓ) (g : Dev Cert.Reference.nD → PrngReg), Pre_Reference_perm_1032_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_1203_Reference [hReference : Cert.Reference.Facts] [hPre_perm_1203_Reference : Cert.Pre_perm_1203_Reference.Facts] : Prop :=
  ∀ (m : (ℓ : Loc Cert.Reference.nD Cert.Reference.τ Cert.Reference.sig) → Buf (Elt Bits) ℓ) (g : Dev Cert.Reference.nD → PrngReg), Pre_Reference_perm_1203_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_1230_Reference [hReference : Cert.Reference.Facts] [hPre_perm_1230_Reference : Cert.Pre_perm_1230_Reference.Facts] : Prop :=
  ∀ (m : (ℓ : Loc Cert.Reference.nD Cert.Reference.τ Cert.Reference.sig) → Buf (Elt Bits) ℓ) (g : Dev Cert.Reference.nD → PrngReg), Pre_Reference_perm_1230_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_1302_Reference [hReference : Cert.Reference.Facts] [hPre_perm_1302_Reference : Cert.Pre_perm_1302_Reference.Facts] : Prop :=
  ∀ (m : (ℓ : Loc Cert.Reference.nD Cert.Reference.τ Cert.Reference.sig) → Buf (Elt Bits) ℓ) (g : Dev Cert.Reference.nD → PrngReg), Pre_Reference_perm_1302_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_1320_Reference [hReference : Cert.Reference.Facts] [hPre_perm_1320_Reference : Cert.Pre_perm_1320_Reference.Facts] : Prop :=
  ∀ (m : (ℓ : Loc Cert.Reference.nD Cert.Reference.τ Cert.Reference.sig) → Buf (Elt Bits) ℓ) (g : Dev Cert.Reference.nD → PrngReg), Pre_Reference_perm_1320_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_2013_Reference [hReference : Cert.Reference.Facts] [hPre_perm_2013_Reference : Cert.Pre_perm_2013_Reference.Facts] : Prop :=
  ∀ (m : (ℓ : Loc Cert.Reference.nD Cert.Reference.τ Cert.Reference.sig) → Buf (Elt Bits) ℓ) (g : Dev Cert.Reference.nD → PrngReg), Pre_Reference_perm_2013_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_2031_Reference [hReference : Cert.Reference.Facts] [hPre_perm_2031_Reference : Cert.Pre_perm_2031_Reference.Facts] : Prop :=
  ∀ (m : (ℓ : Loc Cert.Reference.nD Cert.Reference.τ Cert.Reference.sig) → Buf (Elt Bits) ℓ) (g : Dev Cert.Reference.nD → PrngReg), Pre_Reference_perm_2031_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_2103_Reference [hReference : Cert.Reference.Facts] [hPre_perm_2103_Reference : Cert.Pre_perm_2103_Reference.Facts] : Prop :=
  ∀ (m : (ℓ : Loc Cert.Reference.nD Cert.Reference.τ Cert.Reference.sig) → Buf (Elt Bits) ℓ) (g : Dev Cert.Reference.nD → PrngReg), Pre_Reference_perm_2103_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_2130_Reference [hReference : Cert.Reference.Facts] [hPre_perm_2130_Reference : Cert.Pre_perm_2130_Reference.Facts] : Prop :=
  ∀ (m : (ℓ : Loc Cert.Reference.nD Cert.Reference.τ Cert.Reference.sig) → Buf (Elt Bits) ℓ) (g : Dev Cert.Reference.nD → PrngReg), Pre_Reference_perm_2130_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_2301_Reference [hReference : Cert.Reference.Facts] [hPre_perm_2301_Reference : Cert.Pre_perm_2301_Reference.Facts] : Prop :=
  ∀ (m : (ℓ : Loc Cert.Reference.nD Cert.Reference.τ Cert.Reference.sig) → Buf (Elt Bits) ℓ) (g : Dev Cert.Reference.nD → PrngReg), Pre_Reference_perm_2301_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_2310_Reference [hReference : Cert.Reference.Facts] [hPre_perm_2310_Reference : Cert.Pre_perm_2310_Reference.Facts] : Prop :=
  ∀ (m : (ℓ : Loc Cert.Reference.nD Cert.Reference.τ Cert.Reference.sig) → Buf (Elt Bits) ℓ) (g : Dev Cert.Reference.nD → PrngReg), Pre_Reference_perm_2310_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_3012_Reference [hReference : Cert.Reference.Facts] [hPre_perm_3012_Reference : Cert.Pre_perm_3012_Reference.Facts] : Prop :=
  ∀ (m : (ℓ : Loc Cert.Reference.nD Cert.Reference.τ Cert.Reference.sig) → Buf (Elt Bits) ℓ) (g : Dev Cert.Reference.nD → PrngReg), Pre_Reference_perm_3012_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_3021_Reference [hReference : Cert.Reference.Facts] [hPre_perm_3021_Reference : Cert.Pre_perm_3021_Reference.Facts] : Prop :=
  ∀ (m : (ℓ : Loc Cert.Reference.nD Cert.Reference.τ Cert.Reference.sig) → Buf (Elt Bits) ℓ) (g : Dev Cert.Reference.nD → PrngReg), Pre_Reference_perm_3021_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_3102_Reference [hReference : Cert.Reference.Facts] [hPre_perm_3102_Reference : Cert.Pre_perm_3102_Reference.Facts] : Prop :=
  ∀ (m : (ℓ : Loc Cert.Reference.nD Cert.Reference.τ Cert.Reference.sig) → Buf (Elt Bits) ℓ) (g : Dev Cert.Reference.nD → PrngReg), Pre_Reference_perm_3102_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_3120_Reference [hReference : Cert.Reference.Facts] [hPre_perm_3120_Reference : Cert.Pre_perm_3120_Reference.Facts] : Prop :=
  ∀ (m : (ℓ : Loc Cert.Reference.nD Cert.Reference.τ Cert.Reference.sig) → Buf (Elt Bits) ℓ) (g : Dev Cert.Reference.nD → PrngReg), Pre_Reference_perm_3120_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_3201_Reference [hReference : Cert.Reference.Facts] [hPre_perm_3201_Reference : Cert.Pre_perm_3201_Reference.Facts] : Prop :=
  ∀ (m : (ℓ : Loc Cert.Reference.nD Cert.Reference.τ Cert.Reference.sig) → Buf (Elt Bits) ℓ) (g : Dev Cert.Reference.nD → PrngReg), Pre_Reference_perm_3201_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_3210_Reference [hReference : Cert.Reference.Facts] [hPre_perm_3210_Reference : Cert.Pre_perm_3210_Reference.Facts] : Prop :=
  ∀ (m : (ℓ : Loc Cert.Reference.nD Cert.Reference.τ Cert.Reference.sig) → Buf (Elt Bits) ℓ) (g : Dev Cert.Reference.nD → PrngReg), Pre_Reference_perm_3210_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_0123_Reference [hReferenceIdeal : Cert.ReferenceIdeal.Facts] [hPre_perm_0123_Reference : Cert.Pre_perm_0123_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_0123_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_0132_Reference [hReferenceIdeal : Cert.ReferenceIdeal.Facts] [hPre_perm_0132_Reference : Cert.Pre_perm_0132_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_0132_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_0213_Reference [hReferenceIdeal : Cert.ReferenceIdeal.Facts] [hPre_perm_0213_Reference : Cert.Pre_perm_0213_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_0213_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_0231_Reference [hReferenceIdeal : Cert.ReferenceIdeal.Facts] [hPre_perm_0231_Reference : Cert.Pre_perm_0231_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_0231_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_0312_Reference [hReferenceIdeal : Cert.ReferenceIdeal.Facts] [hPre_perm_0312_Reference : Cert.Pre_perm_0312_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_0312_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_0321_Reference [hReferenceIdeal : Cert.ReferenceIdeal.Facts] [hPre_perm_0321_Reference : Cert.Pre_perm_0321_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_0321_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_1023_Reference [hReferenceIdeal : Cert.ReferenceIdeal.Facts] [hPre_perm_1023_Reference : Cert.Pre_perm_1023_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_1023_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_1032_Reference [hReferenceIdeal : Cert.ReferenceIdeal.Facts] [hPre_perm_1032_Reference : Cert.Pre_perm_1032_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_1032_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_1203_Reference [hReferenceIdeal : Cert.ReferenceIdeal.Facts] [hPre_perm_1203_Reference : Cert.Pre_perm_1203_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_1203_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_1230_Reference [hReferenceIdeal : Cert.ReferenceIdeal.Facts] [hPre_perm_1230_Reference : Cert.Pre_perm_1230_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_1230_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_1302_Reference [hReferenceIdeal : Cert.ReferenceIdeal.Facts] [hPre_perm_1302_Reference : Cert.Pre_perm_1302_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_1302_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_1320_Reference [hReferenceIdeal : Cert.ReferenceIdeal.Facts] [hPre_perm_1320_Reference : Cert.Pre_perm_1320_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_1320_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_2013_Reference [hReferenceIdeal : Cert.ReferenceIdeal.Facts] [hPre_perm_2013_Reference : Cert.Pre_perm_2013_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_2013_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_2031_Reference [hReferenceIdeal : Cert.ReferenceIdeal.Facts] [hPre_perm_2031_Reference : Cert.Pre_perm_2031_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_2031_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_2103_Reference [hReferenceIdeal : Cert.ReferenceIdeal.Facts] [hPre_perm_2103_Reference : Cert.Pre_perm_2103_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_2103_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_2130_Reference [hReferenceIdeal : Cert.ReferenceIdeal.Facts] [hPre_perm_2130_Reference : Cert.Pre_perm_2130_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_2130_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_2301_Reference [hReferenceIdeal : Cert.ReferenceIdeal.Facts] [hPre_perm_2301_Reference : Cert.Pre_perm_2301_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_2301_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_2310_Reference [hReferenceIdeal : Cert.ReferenceIdeal.Facts] [hPre_perm_2310_Reference : Cert.Pre_perm_2310_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_2310_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_3012_Reference [hReferenceIdeal : Cert.ReferenceIdeal.Facts] [hPre_perm_3012_Reference : Cert.Pre_perm_3012_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_3012_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_3021_Reference [hReferenceIdeal : Cert.ReferenceIdeal.Facts] [hPre_perm_3021_Reference : Cert.Pre_perm_3021_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_3021_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_3102_Reference [hReferenceIdeal : Cert.ReferenceIdeal.Facts] [hPre_perm_3102_Reference : Cert.Pre_perm_3102_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_3102_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_3120_Reference [hReferenceIdeal : Cert.ReferenceIdeal.Facts] [hPre_perm_3120_Reference : Cert.Pre_perm_3120_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_3120_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_3201_Reference [hReferenceIdeal : Cert.ReferenceIdeal.Facts] [hPre_perm_3201_Reference : Cert.Pre_perm_3201_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_3201_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_3210_Reference [hReferenceIdeal : Cert.ReferenceIdeal.Facts] [hPre_perm_3210_Reference : Cert.Pre_perm_3210_Reference.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_3210_Reference m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_perm_0123_Kernel : Cert.Pre_perm_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_0132_Kernel [hKernelIdeal : Cert.KernelIdeal.Facts] [hReferenceIdeal : Cert.ReferenceIdeal.Facts] [hPre_perm_0132_Kernel : Cert.Pre_perm_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_0132_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_0213_Kernel [hKernelIdeal : Cert.KernelIdeal.Facts] [hReferenceIdeal : Cert.ReferenceIdeal.Facts] [hPre_perm_0213_Kernel : Cert.Pre_perm_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_0213_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_0231_Kernel [hKernelIdeal : Cert.KernelIdeal.Facts] [hReferenceIdeal : Cert.ReferenceIdeal.Facts] [hPre_perm_0231_Kernel : Cert.Pre_perm_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_0231_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_0312_Kernel [hKernelIdeal : Cert.KernelIdeal.Facts] [hReferenceIdeal : Cert.ReferenceIdeal.Facts] [hPre_perm_0312_Kernel : Cert.Pre_perm_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_0312_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_0321_Kernel [hKernelIdeal : Cert.KernelIdeal.Facts] [hReferenceIdeal : Cert.ReferenceIdeal.Facts] [hPre_perm_0321_Kernel : Cert.Pre_perm_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_0321_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_1023_Kernel [hKernelIdeal : Cert.KernelIdeal.Facts] [hReferenceIdeal : Cert.ReferenceIdeal.Facts] [hPre_perm_1023_Kernel : Cert.Pre_perm_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_1023_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_1032_Kernel [hKernelIdeal : Cert.KernelIdeal.Facts] [hReferenceIdeal : Cert.ReferenceIdeal.Facts] [hPre_perm_1032_Kernel : Cert.Pre_perm_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_1032_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_1203_Kernel [hKernelIdeal : Cert.KernelIdeal.Facts] [hReferenceIdeal : Cert.ReferenceIdeal.Facts] [hPre_perm_1203_Kernel : Cert.Pre_perm_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_1203_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_1230_Kernel [hKernelIdeal : Cert.KernelIdeal.Facts] [hReferenceIdeal : Cert.ReferenceIdeal.Facts] [hPre_perm_1230_Kernel : Cert.Pre_perm_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_1230_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_1302_Kernel [hKernelIdeal : Cert.KernelIdeal.Facts] [hReferenceIdeal : Cert.ReferenceIdeal.Facts] [hPre_perm_1302_Kernel : Cert.Pre_perm_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_1302_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_1320_Kernel [hKernelIdeal : Cert.KernelIdeal.Facts] [hReferenceIdeal : Cert.ReferenceIdeal.Facts] [hPre_perm_1320_Kernel : Cert.Pre_perm_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_1320_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_2013_Kernel [hKernelIdeal : Cert.KernelIdeal.Facts] [hReferenceIdeal : Cert.ReferenceIdeal.Facts] [hPre_perm_2013_Kernel : Cert.Pre_perm_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_2013_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_2031_Kernel [hKernelIdeal : Cert.KernelIdeal.Facts] [hReferenceIdeal : Cert.ReferenceIdeal.Facts] [hPre_perm_2031_Kernel : Cert.Pre_perm_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_2031_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_2103_Kernel [hKernelIdeal : Cert.KernelIdeal.Facts] [hReferenceIdeal : Cert.ReferenceIdeal.Facts] [hPre_perm_2103_Kernel : Cert.Pre_perm_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_2103_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_2130_Kernel [hKernelIdeal : Cert.KernelIdeal.Facts] [hReferenceIdeal : Cert.ReferenceIdeal.Facts] [hPre_perm_2130_Kernel : Cert.Pre_perm_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_2130_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_2301_Kernel [hKernelIdeal : Cert.KernelIdeal.Facts] [hReferenceIdeal : Cert.ReferenceIdeal.Facts] [hPre_perm_2301_Kernel : Cert.Pre_perm_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_2301_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_2310_Kernel [hKernelIdeal : Cert.KernelIdeal.Facts] [hReferenceIdeal : Cert.ReferenceIdeal.Facts] [hPre_perm_2310_Kernel : Cert.Pre_perm_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_2310_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_3012_Kernel [hKernelIdeal : Cert.KernelIdeal.Facts] [hReferenceIdeal : Cert.ReferenceIdeal.Facts] [hPre_perm_3012_Kernel : Cert.Pre_perm_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_3012_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_3021_Kernel [hKernelIdeal : Cert.KernelIdeal.Facts] [hReferenceIdeal : Cert.ReferenceIdeal.Facts] [hPre_perm_3021_Kernel : Cert.Pre_perm_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_3021_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_3102_Kernel [hKernelIdeal : Cert.KernelIdeal.Facts] [hReferenceIdeal : Cert.ReferenceIdeal.Facts] [hPre_perm_3102_Kernel : Cert.Pre_perm_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_3102_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_3120_Kernel [hKernelIdeal : Cert.KernelIdeal.Facts] [hReferenceIdeal : Cert.ReferenceIdeal.Facts] [hPre_perm_3120_Kernel : Cert.Pre_perm_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_3120_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_3201_Kernel [hKernelIdeal : Cert.KernelIdeal.Facts] [hReferenceIdeal : Cert.ReferenceIdeal.Facts] [hPre_perm_3201_Kernel : Cert.Pre_perm_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_3201_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_perm_3210_Kernel [hKernelIdeal : Cert.KernelIdeal.Facts] [hReferenceIdeal : Cert.ReferenceIdeal.Facts] [hPre_perm_3210_Kernel : Cert.Pre_perm_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_perm_3210_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![4, 1024, 1024]⟩ (Layout.meshBlock [2, 4, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def bitexact_Kernel_Reference [hKernel : Cert.Kernel.Facts] [hReference : Cert.Reference.Facts] [hPre_perm_0123_Kernel : Cert.Pre_perm_0123_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_0132_Kernel [hKernel : Cert.Kernel.Facts] [hReference : Cert.Reference.Facts] [hPre_perm_0132_Kernel : Cert.Pre_perm_0132_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_0132_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_0213_Kernel [hKernel : Cert.Kernel.Facts] [hReference : Cert.Reference.Facts] [hPre_perm_0213_Kernel : Cert.Pre_perm_0213_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_0213_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_0231_Kernel [hKernel : Cert.Kernel.Facts] [hReference : Cert.Reference.Facts] [hPre_perm_0231_Kernel : Cert.Pre_perm_0231_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_0231_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_0312_Kernel [hKernel : Cert.Kernel.Facts] [hReference : Cert.Reference.Facts] [hPre_perm_0312_Kernel : Cert.Pre_perm_0312_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_0312_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_0321_Kernel [hKernel : Cert.Kernel.Facts] [hReference : Cert.Reference.Facts] [hPre_perm_0321_Kernel : Cert.Pre_perm_0321_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_0321_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_1023_Kernel [hKernel : Cert.Kernel.Facts] [hReference : Cert.Reference.Facts] [hPre_perm_1023_Kernel : Cert.Pre_perm_1023_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_1023_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_1032_Kernel [hKernel : Cert.Kernel.Facts] [hReference : Cert.Reference.Facts] [hPre_perm_1032_Kernel : Cert.Pre_perm_1032_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_1032_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_1203_Kernel [hKernel : Cert.Kernel.Facts] [hReference : Cert.Reference.Facts] [hPre_perm_1203_Kernel : Cert.Pre_perm_1203_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_1203_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_1230_Kernel [hKernel : Cert.Kernel.Facts] [hReference : Cert.Reference.Facts] [hPre_perm_1230_Kernel : Cert.Pre_perm_1230_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_1230_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_1302_Kernel [hKernel : Cert.Kernel.Facts] [hReference : Cert.Reference.Facts] [hPre_perm_1302_Kernel : Cert.Pre_perm_1302_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_1302_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_1320_Kernel [hKernel : Cert.Kernel.Facts] [hReference : Cert.Reference.Facts] [hPre_perm_1320_Kernel : Cert.Pre_perm_1320_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_1320_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_2013_Kernel [hKernel : Cert.Kernel.Facts] [hReference : Cert.Reference.Facts] [hPre_perm_2013_Kernel : Cert.Pre_perm_2013_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_2013_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_2031_Kernel [hKernel : Cert.Kernel.Facts] [hReference : Cert.Reference.Facts] [hPre_perm_2031_Kernel : Cert.Pre_perm_2031_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_2031_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_2103_Kernel [hKernel : Cert.Kernel.Facts] [hReference : Cert.Reference.Facts] [hPre_perm_2103_Kernel : Cert.Pre_perm_2103_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_2103_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_2130_Kernel [hKernel : Cert.Kernel.Facts] [hReference : Cert.Reference.Facts] [hPre_perm_2130_Kernel : Cert.Pre_perm_2130_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_2130_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_2301_Kernel [hKernel : Cert.Kernel.Facts] [hReference : Cert.Reference.Facts] [hPre_perm_2301_Kernel : Cert.Pre_perm_2301_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_2301_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_2310_Kernel [hKernel : Cert.Kernel.Facts] [hReference : Cert.Reference.Facts] [hPre_perm_2310_Kernel : Cert.Pre_perm_2310_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_2310_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_3012_Kernel [hKernel : Cert.Kernel.Facts] [hReference : Cert.Reference.Facts] [hPre_perm_3012_Kernel : Cert.Pre_perm_3012_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_3012_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_3021_Kernel [hKernel : Cert.Kernel.Facts] [hReference : Cert.Reference.Facts] [hPre_perm_3021_Kernel : Cert.Pre_perm_3021_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_3021_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_3102_Kernel [hKernel : Cert.Kernel.Facts] [hReference : Cert.Reference.Facts] [hPre_perm_3102_Kernel : Cert.Pre_perm_3102_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_3102_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_3120_Kernel [hKernel : Cert.Kernel.Facts] [hReference : Cert.Reference.Facts] [hPre_perm_3120_Kernel : Cert.Pre_perm_3120_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_3120_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_3201_Kernel [hKernel : Cert.Kernel.Facts] [hReference : Cert.Reference.Facts] [hPre_perm_3201_Kernel : Cert.Pre_perm_3201_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_3201_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def bitexact_Kernel_Reference_pre_perm_3210_Kernel [hKernel : Cert.Kernel.Facts] [hReference : Cert.Reference.Facts] [hPre_perm_3210_Kernel : Cert.Pre_perm_3210_Kernel.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_perm_3210_Kernel m →
    (∀ c : Dev Cert.Kernel.nD,
      m ((c.tc : Thread Cert.Kernel.nD Cert.Kernel.τ).loc Cert.Kernel.main_arg0) = Layout.blockN ⟨3, ![1, 1024, 1024]⟩ ⟨3, ![4, 1024, 1024]⟩ (Layout.meshBlock [2, 4, 4] ![[1], [], []] c) (m' (((0 : Dev Cert.Reference.nD).tc : Thread Cert.Reference.nD Cert.Reference.τ).loc Cert.Reference.main_arg0))
      ∧ m ((c.tc : Thread Cert.Kernel.nD Cert.Kernel.τ).loc Cert.Kernel.main_arg1) = m' (((0 : Dev Cert.Reference.nD).tc : Thread Cert.Reference.nD Cert.Reference.τ).loc Cert.Reference.main_arg1)) →
    ∃ (v0 : Buf (Elt Bits) (((0 : Dev Cert.Reference.nD).tc : Thread Cert.Reference.nD Cert.Reference.τ).loc Cert.Reference.main_v7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨3, ![1, 1024, 1024]⟩ ⟨3, ![4, 1024, 1024]⟩ (Layout.meshBlock [2, 4, 4] ![[1], [], []] c) v0
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts) (hPre_perm_0123_Kernel : Cert.Pre_perm_0123_Kernel.Facts) (hPre_perm_0132_Kernel : Cert.Pre_perm_0132_Kernel.Facts) (hPre_perm_0213_Kernel : Cert.Pre_perm_0213_Kernel.Facts) (hPre_perm_0231_Kernel : Cert.Pre_perm_0231_Kernel.Facts) (hPre_perm_0312_Kernel : Cert.Pre_perm_0312_Kernel.Facts) (hPre_perm_0321_Kernel : Cert.Pre_perm_0321_Kernel.Facts) (hPre_perm_1023_Kernel : Cert.Pre_perm_1023_Kernel.Facts) (hPre_perm_1032_Kernel : Cert.Pre_perm_1032_Kernel.Facts) (hPre_perm_1203_Kernel : Cert.Pre_perm_1203_Kernel.Facts) (hPre_perm_1230_Kernel : Cert.Pre_perm_1230_Kernel.Facts) (hPre_perm_1302_Kernel : Cert.Pre_perm_1302_Kernel.Facts) (hPre_perm_1320_Kernel : Cert.Pre_perm_1320_Kernel.Facts) (hPre_perm_2013_Kernel : Cert.Pre_perm_2013_Kernel.Facts) (hPre_perm_2031_Kernel : Cert.Pre_perm_2031_Kernel.Facts) (hPre_perm_2103_Kernel : Cert.Pre_perm_2103_Kernel.Facts) (hPre_perm_2130_Kernel : Cert.Pre_perm_2130_Kernel.Facts) (hPre_perm_2301_Kernel : Cert.Pre_perm_2301_Kernel.Facts) (hPre_perm_2310_Kernel : Cert.Pre_perm_2310_Kernel.Facts) (hPre_perm_3012_Kernel : Cert.Pre_perm_3012_Kernel.Facts) (hPre_perm_3021_Kernel : Cert.Pre_perm_3021_Kernel.Facts) (hPre_perm_3102_Kernel : Cert.Pre_perm_3102_Kernel.Facts) (hPre_perm_3120_Kernel : Cert.Pre_perm_3120_Kernel.Facts) (hPre_perm_3201_Kernel : Cert.Pre_perm_3201_Kernel.Facts) (hPre_perm_3210_Kernel : Cert.Pre_perm_3210_Kernel.Facts) (hPre_perm_0123_Reference : Cert.Pre_perm_0123_Reference.Facts) (hPre_perm_0132_Reference : Cert.Pre_perm_0132_Reference.Facts) (hPre_perm_0213_Reference : Cert.Pre_perm_0213_Reference.Facts) (hPre_perm_0231_Reference : Cert.Pre_perm_0231_Reference.Facts) (hPre_perm_0312_Reference : Cert.Pre_perm_0312_Reference.Facts) (hPre_perm_0321_Reference : Cert.Pre_perm_0321_Reference.Facts) (hPre_perm_1023_Reference : Cert.Pre_perm_1023_Reference.Facts) (hPre_perm_1032_Reference : Cert.Pre_perm_1032_Reference.Facts) (hPre_perm_1203_Reference : Cert.Pre_perm_1203_Reference.Facts) (hPre_perm_1230_Reference : Cert.Pre_perm_1230_Reference.Facts) (hPre_perm_1302_Reference : Cert.Pre_perm_1302_Reference.Facts) (hPre_perm_1320_Reference : Cert.Pre_perm_1320_Reference.Facts) (hPre_perm_2013_Reference : Cert.Pre_perm_2013_Reference.Facts) (hPre_perm_2031_Reference : Cert.Pre_perm_2031_Reference.Facts) (hPre_perm_2103_Reference : Cert.Pre_perm_2103_Reference.Facts) (hPre_perm_2130_Reference : Cert.Pre_perm_2130_Reference.Facts) (hPre_perm_2301_Reference : Cert.Pre_perm_2301_Reference.Facts) (hPre_perm_2310_Reference : Cert.Pre_perm_2310_Reference.Facts) (hPre_perm_3012_Reference : Cert.Pre_perm_3012_Reference.Facts) (hPre_perm_3021_Reference : Cert.Pre_perm_3021_Reference.Facts) (hPre_perm_3102_Reference : Cert.Pre_perm_3102_Reference.Facts) (hPre_perm_3120_Reference : Cert.Pre_perm_3120_Reference.Facts) (hPre_perm_3201_Reference : Cert.Pre_perm_3201_Reference.Facts) (hPre_perm_3210_Reference : Cert.Pre_perm_3210_Reference.Facts),
    quiescent_Kernel (hKernel := hKernel) (hPre_perm_0123_Kernel := hPre_perm_0123_Kernel)
    ∧ quiescent_Kernel_pre_perm_0132_Kernel (hKernel := hKernel) (hPre_perm_0132_Kernel := hPre_perm_0132_Kernel)
    ∧ quiescent_Kernel_pre_perm_0213_Kernel (hKernel := hKernel) (hPre_perm_0213_Kernel := hPre_perm_0213_Kernel)
    ∧ quiescent_Kernel_pre_perm_0231_Kernel (hKernel := hKernel) (hPre_perm_0231_Kernel := hPre_perm_0231_Kernel)
    ∧ quiescent_Kernel_pre_perm_0312_Kernel (hKernel := hKernel) (hPre_perm_0312_Kernel := hPre_perm_0312_Kernel)
    ∧ quiescent_Kernel_pre_perm_0321_Kernel (hKernel := hKernel) (hPre_perm_0321_Kernel := hPre_perm_0321_Kernel)
    ∧ quiescent_Kernel_pre_perm_1023_Kernel (hKernel := hKernel) (hPre_perm_1023_Kernel := hPre_perm_1023_Kernel)
    ∧ quiescent_Kernel_pre_perm_1032_Kernel (hKernel := hKernel) (hPre_perm_1032_Kernel := hPre_perm_1032_Kernel)
    ∧ quiescent_Kernel_pre_perm_1203_Kernel (hKernel := hKernel) (hPre_perm_1203_Kernel := hPre_perm_1203_Kernel)
    ∧ quiescent_Kernel_pre_perm_1230_Kernel (hKernel := hKernel) (hPre_perm_1230_Kernel := hPre_perm_1230_Kernel)
    ∧ quiescent_Kernel_pre_perm_1302_Kernel (hKernel := hKernel) (hPre_perm_1302_Kernel := hPre_perm_1302_Kernel)
    ∧ quiescent_Kernel_pre_perm_1320_Kernel (hKernel := hKernel) (hPre_perm_1320_Kernel := hPre_perm_1320_Kernel)
    ∧ quiescent_Kernel_pre_perm_2013_Kernel (hKernel := hKernel) (hPre_perm_2013_Kernel := hPre_perm_2013_Kernel)
    ∧ quiescent_Kernel_pre_perm_2031_Kernel (hKernel := hKernel) (hPre_perm_2031_Kernel := hPre_perm_2031_Kernel)
    ∧ quiescent_Kernel_pre_perm_2103_Kernel (hKernel := hKernel) (hPre_perm_2103_Kernel := hPre_perm_2103_Kernel)
    ∧ quiescent_Kernel_pre_perm_2130_Kernel (hKernel := hKernel) (hPre_perm_2130_Kernel := hPre_perm_2130_Kernel)
    ∧ quiescent_Kernel_pre_perm_2301_Kernel (hKernel := hKernel) (hPre_perm_2301_Kernel := hPre_perm_2301_Kernel)
    ∧ quiescent_Kernel_pre_perm_2310_Kernel (hKernel := hKernel) (hPre_perm_2310_Kernel := hPre_perm_2310_Kernel)
    ∧ quiescent_Kernel_pre_perm_3012_Kernel (hKernel := hKernel) (hPre_perm_3012_Kernel := hPre_perm_3012_Kernel)
    ∧ quiescent_Kernel_pre_perm_3021_Kernel (hKernel := hKernel) (hPre_perm_3021_Kernel := hPre_perm_3021_Kernel)
    ∧ quiescent_Kernel_pre_perm_3102_Kernel (hKernel := hKernel) (hPre_perm_3102_Kernel := hPre_perm_3102_Kernel)
    ∧ quiescent_Kernel_pre_perm_3120_Kernel (hKernel := hKernel) (hPre_perm_3120_Kernel := hPre_perm_3120_Kernel)
    ∧ quiescent_Kernel_pre_perm_3201_Kernel (hKernel := hKernel) (hPre_perm_3201_Kernel := hPre_perm_3201_Kernel)
    ∧ quiescent_Kernel_pre_perm_3210_Kernel (hKernel := hKernel) (hPre_perm_3210_Kernel := hPre_perm_3210_Kernel)
    ∧ quiescent_KernelIdeal (hKernelIdeal := hKernelIdeal) (hPre_perm_0123_Kernel := hPre_perm_0123_Kernel)
    ∧ quiescent_KernelIdeal_pre_perm_0132_Kernel (hKernelIdeal := hKernelIdeal) (hPre_perm_0132_Kernel := hPre_perm_0132_Kernel)
    ∧ quiescent_KernelIdeal_pre_perm_0213_Kernel (hKernelIdeal := hKernelIdeal) (hPre_perm_0213_Kernel := hPre_perm_0213_Kernel)
    ∧ quiescent_KernelIdeal_pre_perm_0231_Kernel (hKernelIdeal := hKernelIdeal) (hPre_perm_0231_Kernel := hPre_perm_0231_Kernel)
    ∧ quiescent_KernelIdeal_pre_perm_0312_Kernel (hKernelIdeal := hKernelIdeal) (hPre_perm_0312_Kernel := hPre_perm_0312_Kernel)
    ∧ quiescent_KernelIdeal_pre_perm_0321_Kernel (hKernelIdeal := hKernelIdeal) (hPre_perm_0321_Kernel := hPre_perm_0321_Kernel)
    ∧ quiescent_KernelIdeal_pre_perm_1023_Kernel (hKernelIdeal := hKernelIdeal) (hPre_perm_1023_Kernel := hPre_perm_1023_Kernel)
    ∧ quiescent_KernelIdeal_pre_perm_1032_Kernel (hKernelIdeal := hKernelIdeal) (hPre_perm_1032_Kernel := hPre_perm_1032_Kernel)
    ∧ quiescent_KernelIdeal_pre_perm_1203_Kernel (hKernelIdeal := hKernelIdeal) (hPre_perm_1203_Kernel := hPre_perm_1203_Kernel)
    ∧ quiescent_KernelIdeal_pre_perm_1230_Kernel (hKernelIdeal := hKernelIdeal) (hPre_perm_1230_Kernel := hPre_perm_1230_Kernel)
    ∧ quiescent_KernelIdeal_pre_perm_1302_Kernel (hKernelIdeal := hKernelIdeal) (hPre_perm_1302_Kernel := hPre_perm_1302_Kernel)
    ∧ quiescent_KernelIdeal_pre_perm_1320_Kernel (hKernelIdeal := hKernelIdeal) (hPre_perm_1320_Kernel := hPre_perm_1320_Kernel)
    ∧ quiescent_KernelIdeal_pre_perm_2013_Kernel (hKernelIdeal := hKernelIdeal) (hPre_perm_2013_Kernel := hPre_perm_2013_Kernel)
    ∧ quiescent_KernelIdeal_pre_perm_2031_Kernel (hKernelIdeal := hKernelIdeal) (hPre_perm_2031_Kernel := hPre_perm_2031_Kernel)
    ∧ quiescent_KernelIdeal_pre_perm_2103_Kernel (hKernelIdeal := hKernelIdeal) (hPre_perm_2103_Kernel := hPre_perm_2103_Kernel)
    ∧ quiescent_KernelIdeal_pre_perm_2130_Kernel (hKernelIdeal := hKernelIdeal) (hPre_perm_2130_Kernel := hPre_perm_2130_Kernel)
    ∧ quiescent_KernelIdeal_pre_perm_2301_Kernel (hKernelIdeal := hKernelIdeal) (hPre_perm_2301_Kernel := hPre_perm_2301_Kernel)
    ∧ quiescent_KernelIdeal_pre_perm_2310_Kernel (hKernelIdeal := hKernelIdeal) (hPre_perm_2310_Kernel := hPre_perm_2310_Kernel)
    ∧ quiescent_KernelIdeal_pre_perm_3012_Kernel (hKernelIdeal := hKernelIdeal) (hPre_perm_3012_Kernel := hPre_perm_3012_Kernel)
    ∧ quiescent_KernelIdeal_pre_perm_3021_Kernel (hKernelIdeal := hKernelIdeal) (hPre_perm_3021_Kernel := hPre_perm_3021_Kernel)
    ∧ quiescent_KernelIdeal_pre_perm_3102_Kernel (hKernelIdeal := hKernelIdeal) (hPre_perm_3102_Kernel := hPre_perm_3102_Kernel)
    ∧ quiescent_KernelIdeal_pre_perm_3120_Kernel (hKernelIdeal := hKernelIdeal) (hPre_perm_3120_Kernel := hPre_perm_3120_Kernel)
    ∧ quiescent_KernelIdeal_pre_perm_3201_Kernel (hKernelIdeal := hKernelIdeal) (hPre_perm_3201_Kernel := hPre_perm_3201_Kernel)
    ∧ quiescent_KernelIdeal_pre_perm_3210_Kernel (hKernelIdeal := hKernelIdeal) (hPre_perm_3210_Kernel := hPre_perm_3210_Kernel)
    ∧ quiescent_Reference (hReference := hReference)
    ∧ quiescent_Reference_pre_perm_0123_Reference (hReference := hReference) (hPre_perm_0123_Reference := hPre_perm_0123_Reference)
    ∧ quiescent_Reference_pre_perm_0132_Reference (hReference := hReference) (hPre_perm_0132_Reference := hPre_perm_0132_Reference)
    ∧ quiescent_Reference_pre_perm_0213_Reference (hReference := hReference) (hPre_perm_0213_Reference := hPre_perm_0213_Reference)
    ∧ quiescent_Reference_pre_perm_0231_Reference (hReference := hReference) (hPre_perm_0231_Reference := hPre_perm_0231_Reference)
    ∧ quiescent_Reference_pre_perm_0312_Reference (hReference := hReference) (hPre_perm_0312_Reference := hPre_perm_0312_Reference)
    ∧ quiescent_Reference_pre_perm_0321_Reference (hReference := hReference) (hPre_perm_0321_Reference := hPre_perm_0321_Reference)
    ∧ quiescent_Reference_pre_perm_1023_Reference (hReference := hReference) (hPre_perm_1023_Reference := hPre_perm_1023_Reference)
    ∧ quiescent_Reference_pre_perm_1032_Reference (hReference := hReference) (hPre_perm_1032_Reference := hPre_perm_1032_Reference)
    ∧ quiescent_Reference_pre_perm_1203_Reference (hReference := hReference) (hPre_perm_1203_Reference := hPre_perm_1203_Reference)
    ∧ quiescent_Reference_pre_perm_1230_Reference (hReference := hReference) (hPre_perm_1230_Reference := hPre_perm_1230_Reference)
    ∧ quiescent_Reference_pre_perm_1302_Reference (hReference := hReference) (hPre_perm_1302_Reference := hPre_perm_1302_Reference)
    ∧ quiescent_Reference_pre_perm_1320_Reference (hReference := hReference) (hPre_perm_1320_Reference := hPre_perm_1320_Reference)
    ∧ quiescent_Reference_pre_perm_2013_Reference (hReference := hReference) (hPre_perm_2013_Reference := hPre_perm_2013_Reference)
    ∧ quiescent_Reference_pre_perm_2031_Reference (hReference := hReference) (hPre_perm_2031_Reference := hPre_perm_2031_Reference)
    ∧ quiescent_Reference_pre_perm_2103_Reference (hReference := hReference) (hPre_perm_2103_Reference := hPre_perm_2103_Reference)
    ∧ quiescent_Reference_pre_perm_2130_Reference (hReference := hReference) (hPre_perm_2130_Reference := hPre_perm_2130_Reference)
    ∧ quiescent_Reference_pre_perm_2301_Reference (hReference := hReference) (hPre_perm_2301_Reference := hPre_perm_2301_Reference)
    ∧ quiescent_Reference_pre_perm_2310_Reference (hReference := hReference) (hPre_perm_2310_Reference := hPre_perm_2310_Reference)
    ∧ quiescent_Reference_pre_perm_3012_Reference (hReference := hReference) (hPre_perm_3012_Reference := hPre_perm_3012_Reference)
    ∧ quiescent_Reference_pre_perm_3021_Reference (hReference := hReference) (hPre_perm_3021_Reference := hPre_perm_3021_Reference)
    ∧ quiescent_Reference_pre_perm_3102_Reference (hReference := hReference) (hPre_perm_3102_Reference := hPre_perm_3102_Reference)
    ∧ quiescent_Reference_pre_perm_3120_Reference (hReference := hReference) (hPre_perm_3120_Reference := hPre_perm_3120_Reference)
    ∧ quiescent_Reference_pre_perm_3201_Reference (hReference := hReference) (hPre_perm_3201_Reference := hPre_perm_3201_Reference)
    ∧ quiescent_Reference_pre_perm_3210_Reference (hReference := hReference) (hPre_perm_3210_Reference := hPre_perm_3210_Reference)
    ∧ quiescent_ReferenceIdeal (hReferenceIdeal := hReferenceIdeal)
    ∧ quiescent_ReferenceIdeal_pre_perm_0123_Reference (hReferenceIdeal := hReferenceIdeal) (hPre_perm_0123_Reference := hPre_perm_0123_Reference)
    ∧ quiescent_ReferenceIdeal_pre_perm_0132_Reference (hReferenceIdeal := hReferenceIdeal) (hPre_perm_0132_Reference := hPre_perm_0132_Reference)
    ∧ quiescent_ReferenceIdeal_pre_perm_0213_Reference (hReferenceIdeal := hReferenceIdeal) (hPre_perm_0213_Reference := hPre_perm_0213_Reference)
    ∧ quiescent_ReferenceIdeal_pre_perm_0231_Reference (hReferenceIdeal := hReferenceIdeal) (hPre_perm_0231_Reference := hPre_perm_0231_Reference)
    ∧ quiescent_ReferenceIdeal_pre_perm_0312_Reference (hReferenceIdeal := hReferenceIdeal) (hPre_perm_0312_Reference := hPre_perm_0312_Reference)
    ∧ quiescent_ReferenceIdeal_pre_perm_0321_Reference (hReferenceIdeal := hReferenceIdeal) (hPre_perm_0321_Reference := hPre_perm_0321_Reference)
    ∧ quiescent_ReferenceIdeal_pre_perm_1023_Reference (hReferenceIdeal := hReferenceIdeal) (hPre_perm_1023_Reference := hPre_perm_1023_Reference)
    ∧ quiescent_ReferenceIdeal_pre_perm_1032_Reference (hReferenceIdeal := hReferenceIdeal) (hPre_perm_1032_Reference := hPre_perm_1032_Reference)
    ∧ quiescent_ReferenceIdeal_pre_perm_1203_Reference (hReferenceIdeal := hReferenceIdeal) (hPre_perm_1203_Reference := hPre_perm_1203_Reference)
    ∧ quiescent_ReferenceIdeal_pre_perm_1230_Reference (hReferenceIdeal := hReferenceIdeal) (hPre_perm_1230_Reference := hPre_perm_1230_Reference)
    ∧ quiescent_ReferenceIdeal_pre_perm_1302_Reference (hReferenceIdeal := hReferenceIdeal) (hPre_perm_1302_Reference := hPre_perm_1302_Reference)
    ∧ quiescent_ReferenceIdeal_pre_perm_1320_Reference (hReferenceIdeal := hReferenceIdeal) (hPre_perm_1320_Reference := hPre_perm_1320_Reference)
    ∧ quiescent_ReferenceIdeal_pre_perm_2013_Reference (hReferenceIdeal := hReferenceIdeal) (hPre_perm_2013_Reference := hPre_perm_2013_Reference)
    ∧ quiescent_ReferenceIdeal_pre_perm_2031_Reference (hReferenceIdeal := hReferenceIdeal) (hPre_perm_2031_Reference := hPre_perm_2031_Reference)
    ∧ quiescent_ReferenceIdeal_pre_perm_2103_Reference (hReferenceIdeal := hReferenceIdeal) (hPre_perm_2103_Reference := hPre_perm_2103_Reference)
    ∧ quiescent_ReferenceIdeal_pre_perm_2130_Reference (hReferenceIdeal := hReferenceIdeal) (hPre_perm_2130_Reference := hPre_perm_2130_Reference)
    ∧ quiescent_ReferenceIdeal_pre_perm_2301_Reference (hReferenceIdeal := hReferenceIdeal) (hPre_perm_2301_Reference := hPre_perm_2301_Reference)
    ∧ quiescent_ReferenceIdeal_pre_perm_2310_Reference (hReferenceIdeal := hReferenceIdeal) (hPre_perm_2310_Reference := hPre_perm_2310_Reference)
    ∧ quiescent_ReferenceIdeal_pre_perm_3012_Reference (hReferenceIdeal := hReferenceIdeal) (hPre_perm_3012_Reference := hPre_perm_3012_Reference)
    ∧ quiescent_ReferenceIdeal_pre_perm_3021_Reference (hReferenceIdeal := hReferenceIdeal) (hPre_perm_3021_Reference := hPre_perm_3021_Reference)
    ∧ quiescent_ReferenceIdeal_pre_perm_3102_Reference (hReferenceIdeal := hReferenceIdeal) (hPre_perm_3102_Reference := hPre_perm_3102_Reference)
    ∧ quiescent_ReferenceIdeal_pre_perm_3120_Reference (hReferenceIdeal := hReferenceIdeal) (hPre_perm_3120_Reference := hPre_perm_3120_Reference)
    ∧ quiescent_ReferenceIdeal_pre_perm_3201_Reference (hReferenceIdeal := hReferenceIdeal) (hPre_perm_3201_Reference := hPre_perm_3201_Reference)
    ∧ quiescent_ReferenceIdeal_pre_perm_3210_Reference (hReferenceIdeal := hReferenceIdeal) (hPre_perm_3210_Reference := hPre_perm_3210_Reference)
    ∧ preserves_Kernel_KernelIdeal
    ∧ algebraic_KernelIdeal_ReferenceIdeal (hKernelIdeal := hKernelIdeal) (hReferenceIdeal := hReferenceIdeal) (hPre_perm_0123_Kernel := hPre_perm_0123_Kernel)
    ∧ algebraic_KernelIdeal_ReferenceIdeal_pre_perm_0132_Kernel (hKernelIdeal := hKernelIdeal) (hReferenceIdeal := hReferenceIdeal) (hPre_perm_0132_Kernel := hPre_perm_0132_Kernel)
    ∧ algebraic_KernelIdeal_ReferenceIdeal_pre_perm_0213_Kernel (hKernelIdeal := hKernelIdeal) (hReferenceIdeal := hReferenceIdeal) (hPre_perm_0213_Kernel := hPre_perm_0213_Kernel)
    ∧ algebraic_KernelIdeal_ReferenceIdeal_pre_perm_0231_Kernel (hKernelIdeal := hKernelIdeal) (hReferenceIdeal := hReferenceIdeal) (hPre_perm_0231_Kernel := hPre_perm_0231_Kernel)
    ∧ algebraic_KernelIdeal_ReferenceIdeal_pre_perm_0312_Kernel (hKernelIdeal := hKernelIdeal) (hReferenceIdeal := hReferenceIdeal) (hPre_perm_0312_Kernel := hPre_perm_0312_Kernel)
    ∧ algebraic_KernelIdeal_ReferenceIdeal_pre_perm_0321_Kernel (hKernelIdeal := hKernelIdeal) (hReferenceIdeal := hReferenceIdeal) (hPre_perm_0321_Kernel := hPre_perm_0321_Kernel)
    ∧ algebraic_KernelIdeal_ReferenceIdeal_pre_perm_1023_Kernel (hKernelIdeal := hKernelIdeal) (hReferenceIdeal := hReferenceIdeal) (hPre_perm_1023_Kernel := hPre_perm_1023_Kernel)
    ∧ algebraic_KernelIdeal_ReferenceIdeal_pre_perm_1032_Kernel (hKernelIdeal := hKernelIdeal) (hReferenceIdeal := hReferenceIdeal) (hPre_perm_1032_Kernel := hPre_perm_1032_Kernel)
    ∧ algebraic_KernelIdeal_ReferenceIdeal_pre_perm_1203_Kernel (hKernelIdeal := hKernelIdeal) (hReferenceIdeal := hReferenceIdeal) (hPre_perm_1203_Kernel := hPre_perm_1203_Kernel)
    ∧ algebraic_KernelIdeal_ReferenceIdeal_pre_perm_1230_Kernel (hKernelIdeal := hKernelIdeal) (hReferenceIdeal := hReferenceIdeal) (hPre_perm_1230_Kernel := hPre_perm_1230_Kernel)
    ∧ algebraic_KernelIdeal_ReferenceIdeal_pre_perm_1302_Kernel (hKernelIdeal := hKernelIdeal) (hReferenceIdeal := hReferenceIdeal) (hPre_perm_1302_Kernel := hPre_perm_1302_Kernel)
    ∧ algebraic_KernelIdeal_ReferenceIdeal_pre_perm_1320_Kernel (hKernelIdeal := hKernelIdeal) (hReferenceIdeal := hReferenceIdeal) (hPre_perm_1320_Kernel := hPre_perm_1320_Kernel)
    ∧ algebraic_KernelIdeal_ReferenceIdeal_pre_perm_2013_Kernel (hKernelIdeal := hKernelIdeal) (hReferenceIdeal := hReferenceIdeal) (hPre_perm_2013_Kernel := hPre_perm_2013_Kernel)
    ∧ algebraic_KernelIdeal_ReferenceIdeal_pre_perm_2031_Kernel (hKernelIdeal := hKernelIdeal) (hReferenceIdeal := hReferenceIdeal) (hPre_perm_2031_Kernel := hPre_perm_2031_Kernel)
    ∧ algebraic_KernelIdeal_ReferenceIdeal_pre_perm_2103_Kernel (hKernelIdeal := hKernelIdeal) (hReferenceIdeal := hReferenceIdeal) (hPre_perm_2103_Kernel := hPre_perm_2103_Kernel)
    ∧ algebraic_KernelIdeal_ReferenceIdeal_pre_perm_2130_Kernel (hKernelIdeal := hKernelIdeal) (hReferenceIdeal := hReferenceIdeal) (hPre_perm_2130_Kernel := hPre_perm_2130_Kernel)
    ∧ algebraic_KernelIdeal_ReferenceIdeal_pre_perm_2301_Kernel (hKernelIdeal := hKernelIdeal) (hReferenceIdeal := hReferenceIdeal) (hPre_perm_2301_Kernel := hPre_perm_2301_Kernel)
    ∧ algebraic_KernelIdeal_ReferenceIdeal_pre_perm_2310_Kernel (hKernelIdeal := hKernelIdeal) (hReferenceIdeal := hReferenceIdeal) (hPre_perm_2310_Kernel := hPre_perm_2310_Kernel)
    ∧ algebraic_KernelIdeal_ReferenceIdeal_pre_perm_3012_Kernel (hKernelIdeal := hKernelIdeal) (hReferenceIdeal := hReferenceIdeal) (hPre_perm_3012_Kernel := hPre_perm_3012_Kernel)
    ∧ algebraic_KernelIdeal_ReferenceIdeal_pre_perm_3021_Kernel (hKernelIdeal := hKernelIdeal) (hReferenceIdeal := hReferenceIdeal) (hPre_perm_3021_Kernel := hPre_perm_3021_Kernel)
    ∧ algebraic_KernelIdeal_ReferenceIdeal_pre_perm_3102_Kernel (hKernelIdeal := hKernelIdeal) (hReferenceIdeal := hReferenceIdeal) (hPre_perm_3102_Kernel := hPre_perm_3102_Kernel)
    ∧ algebraic_KernelIdeal_ReferenceIdeal_pre_perm_3120_Kernel (hKernelIdeal := hKernelIdeal) (hReferenceIdeal := hReferenceIdeal) (hPre_perm_3120_Kernel := hPre_perm_3120_Kernel)
    ∧ algebraic_KernelIdeal_ReferenceIdeal_pre_perm_3201_Kernel (hKernelIdeal := hKernelIdeal) (hReferenceIdeal := hReferenceIdeal) (hPre_perm_3201_Kernel := hPre_perm_3201_Kernel)
    ∧ algebraic_KernelIdeal_ReferenceIdeal_pre_perm_3210_Kernel (hKernelIdeal := hKernelIdeal) (hReferenceIdeal := hReferenceIdeal) (hPre_perm_3210_Kernel := hPre_perm_3210_Kernel)
    ∧ bitexact_Kernel_Reference (hKernel := hKernel) (hReference := hReference) (hPre_perm_0123_Kernel := hPre_perm_0123_Kernel)
    ∧ bitexact_Kernel_Reference_pre_perm_0132_Kernel (hKernel := hKernel) (hReference := hReference) (hPre_perm_0132_Kernel := hPre_perm_0132_Kernel)
    ∧ bitexact_Kernel_Reference_pre_perm_0213_Kernel (hKernel := hKernel) (hReference := hReference) (hPre_perm_0213_Kernel := hPre_perm_0213_Kernel)
    ∧ bitexact_Kernel_Reference_pre_perm_0231_Kernel (hKernel := hKernel) (hReference := hReference) (hPre_perm_0231_Kernel := hPre_perm_0231_Kernel)
    ∧ bitexact_Kernel_Reference_pre_perm_0312_Kernel (hKernel := hKernel) (hReference := hReference) (hPre_perm_0312_Kernel := hPre_perm_0312_Kernel)
    ∧ bitexact_Kernel_Reference_pre_perm_0321_Kernel (hKernel := hKernel) (hReference := hReference) (hPre_perm_0321_Kernel := hPre_perm_0321_Kernel)
    ∧ bitexact_Kernel_Reference_pre_perm_1023_Kernel (hKernel := hKernel) (hReference := hReference) (hPre_perm_1023_Kernel := hPre_perm_1023_Kernel)
    ∧ bitexact_Kernel_Reference_pre_perm_1032_Kernel (hKernel := hKernel) (hReference := hReference) (hPre_perm_1032_Kernel := hPre_perm_1032_Kernel)
    ∧ bitexact_Kernel_Reference_pre_perm_1203_Kernel (hKernel := hKernel) (hReference := hReference) (hPre_perm_1203_Kernel := hPre_perm_1203_Kernel)
    ∧ bitexact_Kernel_Reference_pre_perm_1230_Kernel (hKernel := hKernel) (hReference := hReference) (hPre_perm_1230_Kernel := hPre_perm_1230_Kernel)
    ∧ bitexact_Kernel_Reference_pre_perm_1302_Kernel (hKernel := hKernel) (hReference := hReference) (hPre_perm_1302_Kernel := hPre_perm_1302_Kernel)
    ∧ bitexact_Kernel_Reference_pre_perm_1320_Kernel (hKernel := hKernel) (hReference := hReference) (hPre_perm_1320_Kernel := hPre_perm_1320_Kernel)
    ∧ bitexact_Kernel_Reference_pre_perm_2013_Kernel (hKernel := hKernel) (hReference := hReference) (hPre_perm_2013_Kernel := hPre_perm_2013_Kernel)
    ∧ bitexact_Kernel_Reference_pre_perm_2031_Kernel (hKernel := hKernel) (hReference := hReference) (hPre_perm_2031_Kernel := hPre_perm_2031_Kernel)
    ∧ bitexact_Kernel_Reference_pre_perm_2103_Kernel (hKernel := hKernel) (hReference := hReference) (hPre_perm_2103_Kernel := hPre_perm_2103_Kernel)
    ∧ bitexact_Kernel_Reference_pre_perm_2130_Kernel (hKernel := hKernel) (hReference := hReference) (hPre_perm_2130_Kernel := hPre_perm_2130_Kernel)
    ∧ bitexact_Kernel_Reference_pre_perm_2301_Kernel (hKernel := hKernel) (hReference := hReference) (hPre_perm_2301_Kernel := hPre_perm_2301_Kernel)
    ∧ bitexact_Kernel_Reference_pre_perm_2310_Kernel (hKernel := hKernel) (hReference := hReference) (hPre_perm_2310_Kernel := hPre_perm_2310_Kernel)
    ∧ bitexact_Kernel_Reference_pre_perm_3012_Kernel (hKernel := hKernel) (hReference := hReference) (hPre_perm_3012_Kernel := hPre_perm_3012_Kernel)
    ∧ bitexact_Kernel_Reference_pre_perm_3021_Kernel (hKernel := hKernel) (hReference := hReference) (hPre_perm_3021_Kernel := hPre_perm_3021_Kernel)
    ∧ bitexact_Kernel_Reference_pre_perm_3102_Kernel (hKernel := hKernel) (hReference := hReference) (hPre_perm_3102_Kernel := hPre_perm_3102_Kernel)
    ∧ bitexact_Kernel_Reference_pre_perm_3120_Kernel (hKernel := hKernel) (hReference := hReference) (hPre_perm_3120_Kernel := hPre_perm_3120_Kernel)
    ∧ bitexact_Kernel_Reference_pre_perm_3201_Kernel (hKernel := hKernel) (hReference := hReference) (hPre_perm_3201_Kernel := hPre_perm_3201_Kernel)
    ∧ bitexact_Kernel_Reference_pre_perm_3210_Kernel (hKernel := hKernel) (hReference := hReference) (hPre_perm_3210_Kernel := hPre_perm_3210_Kernel)
-- ==== Pre_perm_0123_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_0123_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_0132_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_0132_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_0213_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_0213_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_0231_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_0231_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_0312_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_0312_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_0321_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_0321_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_1023_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_1023_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_1032_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_1032_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_1203_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_1203_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_1230_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_1230_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_1302_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_1302_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_1320_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_1320_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_2013_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_2013_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_2031_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_2031_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_2103_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_2103_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_2130_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_2130_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_2301_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_2301_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_2310_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_2310_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_3012_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_3012_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_3021_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_3021_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_3102_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_3102_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_3120_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_3120_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_3201_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_3201_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_3210_Kernel.lean ====
abbrev S1x1024x1024 : Shape := ⟨3, ![1, 1024, 1024]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x1024x1024 .f32) (main_arg1 : IVec S4 32) : IVec S4 1 :=
  let main_c : IVec S4 32 := fun i => lit0 (S4.rowMajor i)
  let main_v0 : IVec S4 1 := cmpi .eq main_arg1 main_c
  main_v0
-- ==== Pre_perm_3210_Reference.lean ====
abbrev S4x1024x1024 : Shape := ⟨3, ![4, 1024, 1024]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x1024x1024 .f32) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x1024x1024 : Shape := ⟨3, ![1, 1024, 1024]⟩
abbrev S4 : Shape := ⟨1, ![4]⟩
abbrev S_ : Shape := ⟨0, ![]⟩
abbrev S1 : Shape := ⟨1, ![1]⟩

abbrev nBuf : Space → Nat
  | .hbm => 3
  | .vmem => 0
  | .smem => 1
  | _ => 0

abbrev bufTy : (tb : Table) → Fin (tcTables nBuf tb) → BufTy
  | .hbm, ⟨0, _⟩ => ⟨S1x1024x1024, .f32⟩
  | .hbm, ⟨1, _⟩ => ⟨S4, .i32⟩
  | .hbm, ⟨2, _⟩ => ⟨S1x1024x1024, .f32⟩
  | .local _ .smem, ⟨0, _⟩ => ⟨S4, .i32⟩
  | _, _ => ⟨S1x1024x1024, .f32⟩

abbrev bufScoped : (cs : CoreSpace) → Fin (nBuf (.core cs)) → Bool
  | .smem, ⟨0, _⟩ => true
  | _, _ => false

abbrev semScoped : Fin 2 → Bool
  | ⟨0, _⟩ => false
  | ⟨1, _⟩ => true
  | _ => false

abbrev dmaSemScoped : Fin 3 → Bool
  | ⟨0, _⟩ => true
  | ⟨1, _⟩ => true
  | ⟨2, _⟩ => true
  | _ => false

abbrev sig : RefSig :=
  (ofTc nBuf bufTy 2 3 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v9 : Index := Scalar.indexCast v5
  ![v9.toNat]
def k0_dev1 (d0 : Dev nD) (v10 : BitVec 32) : Nat :=
  let c0_i32_7 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_6 : BitVec 32 := 16#32
  let v24 : BitVec 32 := Scalar.muli v2 c16_i32_6
  let v25 : BitVec 32 := Scalar.addi c0_i32_7 v24
  let c4_i32_8 : BitVec 32 := 4#32
  let v26 : BitVec 32 := Scalar.muli v10 c4_i32_8
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v28 : BitVec 32 := Scalar.muli v8 c1_i32_9
  let v29 : BitVec 32 := Scalar.addi v27 v28
  v29.toNat

def k0_dev2 (d0 : Dev nD) (v11 : BitVec 32) (v14 : BitVec 32) (v17 : BitVec 32) (v20 : BitVec 32) : Nat :=
  let c0_i32_12 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_11 : BitVec 32 := 16#32
  let v30 : BitVec 32 := Scalar.muli v2 c16_i32_11
  let v31 : BitVec 32 := Scalar.addi c0_i32_12 v30
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v21 : BitVec 1 := Scalar.cmpi .eq v20 v5
  let c3_i32 : BitVec 32 := 3#32
  let v18 : BitVec 1 := Scalar.cmpi .eq v17 v5
  let c2_i32_4 : BitVec 32 := 2#32
  let v15 : BitVec 1 := Scalar.cmpi .eq v14 v5
  let c1_i32_3 : BitVec 32 := 1#32
  let v12 : BitVec 1 := Scalar.cmpi .eq v11 v5
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c4_i32_13 : BitVec 32 := 4#32
  let v32 : BitVec 32 := Scalar.muli v22 c4_i32_13
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v34 : BitVec 32 := Scalar.muli v8 c1_i32_14
  let v35 : BitVec 32 := Scalar.addi v33 v34
  v35.toNat

def k0_dev3 (d0 : Dev nD) (v10 : BitVec 32) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v36 : BitVec 32 := Scalar.muli v2 c16_i32_16
  let v37 : BitVec 32 := Scalar.addi c0_i32_17 v36
  let c4_i32_18 : BitVec 32 := 4#32
  let v38 : BitVec 32 := Scalar.muli v10 c4_i32_18
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v40 : BitVec 32 := Scalar.muli v8 c1_i32_19
  let v41 : BitVec 32 := Scalar.addi v39 v40
  v41.toNat

def k0_chk1 (d0 : Dev nD) (v10 : BitVec 32) : Prop :=
  ((k0_dev1 d0 v10) < nD) ∧
  ((k0_dev3 d0 v10) < nD)
theorem k0_dev1_lt : ∀ (d0 : Dev nD) (v10 : BitVec 32) (k0_hw1 : k0_chk1 d0 v10), (k0_dev1 d0 v10) < nD := fun d0 v10 k0_hw1 => k0_hw1.1
theorem k0_dev3_lt : ∀ (d0 : Dev nD) (v10 : BitVec 32) (k0_hw1 : k0_chk1 d0 v10), (k0_dev3 d0 v10) < nD := fun d0 v10 k0_hw1 => k0_hw1.2

def k0_dev4 (d0 : Dev nD) (v10 : BitVec 32) : Nat :=
  let c0_i32_28_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_27_r0 : BitVec 32 := 16#32
  let v52_r0 : BitVec 32 := Scalar.muli v2 c16_i32_27_r0
  let v53_r0 : BitVec 32 := Scalar.addi c0_i32_28_r0 v52_r0
  let c4_i32_29_r0 : BitVec 32 := 4#32
  let v54_r0 : BitVec 32 := Scalar.muli v10 c4_i32_29_r0
  let v55_r0 : BitVec 32 := Scalar.addi v53_r0 v54_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30_r0 : BitVec 32 := 1#32
  let v56_r0 : BitVec 32 := Scalar.muli v8 c1_i32_30_r0
  let v57_r0 : BitVec 32 := Scalar.addi v55_r0 v56_r0
  v57_r0.toNat
def k0_cond1 (d0 : Dev nD) (v10 : BitVec 32) (v11 : BitVec 32) (v14 : BitVec 32) (v17 : BitVec 32) (v20 : BitVec 32) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v21 : BitVec 1 := Scalar.cmpi .eq v20 v5
  let c3_i32 : BitVec 32 := 3#32
  let v18 : BitVec 1 := Scalar.cmpi .eq v17 v5
  let c2_i32_4 : BitVec 32 := 2#32
  let v15 : BitVec 1 := Scalar.cmpi .eq v14 v5
  let c1_i32_3 : BitVec 32 := 1#32
  let v12 : BitVec 1 := Scalar.cmpi .eq v11 v5
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let v48 : BitVec 1 := Scalar.cmpi .ne v10 v22
  let v49 : BitVec 32 := Scalar.extui v48
  let c0_i32_25 : BitVec 32 := 0#32
  let v50 : BitVec 1 := Scalar.cmpi .ne v49 c0_i32_25
  v50

def k0_dev5 (d0 : Dev nD) (v11 : BitVec 32) (v14 : BitVec 32) (v17 : BitVec 32) (v20 : BitVec 32) : Nat :=
  let c0_i32_33_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32_r0 : BitVec 32 := 16#32
  let v58_r0 : BitVec 32 := Scalar.muli v2 c16_i32_32_r0
  let v59_r0 : BitVec 32 := Scalar.addi c0_i32_33_r0 v58_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v21 : BitVec 1 := Scalar.cmpi .eq v20 v5
  let c3_i32 : BitVec 32 := 3#32
  let v18 : BitVec 1 := Scalar.cmpi .eq v17 v5
  let c2_i32_4 : BitVec 32 := 2#32
  let v15 : BitVec 1 := Scalar.cmpi .eq v14 v5
  let c1_i32_3 : BitVec 32 := 1#32
  let v12 : BitVec 1 := Scalar.cmpi .eq v11 v5
  let c0_i32 : BitVec 32 := 0#32
  let c0_i32_2 : BitVec 32 := 0#32
  let v13 : BitVec 32 := Scalar.select v12 c0_i32 c0_i32_2
  let v16 : BitVec 32 := Scalar.select v15 c1_i32_3 v13
  let v19 : BitVec 32 := Scalar.select v18 c2_i32_4 v16
  let v22 : BitVec 32 := Scalar.select v21 c3_i32 v19
  let c4_i32_34_r0 : BitVec 32 := 4#32
  let v60_r0 : BitVec 32 := Scalar.muli v22 c4_i32_34_r0
  let v61_r0 : BitVec 32 := Scalar.addi v59_r0 v60_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35_r0 : BitVec 32 := 1#32
  let v62_r0 : BitVec 32 := Scalar.muli v8 c1_i32_35_r0
  let v63_r0 : BitVec 32 := Scalar.addi v61_r0 v62_r0
  v63_r0.toNat

def k0_chk2 (d0 : Dev nD) (v10 : BitVec 32) (v11 : BitVec 32) (v14 : BitVec 32) (v17 : BitVec 32) (v20 : BitVec 32) : Prop :=
  ((k0_dev2 d0 v11 v14 v17 v20) < nD) ∧
  (∀ (k0_h1 : k0_cond1 d0 v10 v11 v14 v17 v20 = 1#1), (k0_dev4 d0 v10) < nD) ∧
  (∀ (k0_h1 : k0_cond1 d0 v10 v11 v14 v17 v20 = 1#1), (k0_dev5 d0 v11 v14 v17 v20) < nD)
theorem k0_dev2_lt : ∀ (d0 : Dev nD) (v10 : BitVec 32) (v11 : BitVec 32) (v14 : BitVec 32) (v17 : BitVec 32) (v20 : BitVec 32) (k0_hw2 : k0_chk2 d0 v10 v11 v14 v17 v20), (k0_dev2 d0 v11 v14 v17 v20) < nD := fun d0 v10 v11 v14 v17 v20 k0_hw2 => k0_hw2.1
theorem k0_dev4_lt : ∀ (d0 : Dev nD) (v10 : BitVec 32) (v11 : BitVec 32) (v14 : BitVec 32) (v17 : BitVec 32) (v20 : BitVec 32) (k0_hw2 : k0_chk2 d0 v10 v11 v14 v17 v20), ∀ (k0_h1 : k0_cond1 d0 v10 v11 v14 v17 v20 = 1#1), (k0_dev4 d0 v10) < nD := fun d0 v10 v11 v14 v17 v20 k0_hw2 k0_h1 => k0_hw2.2.1 k0_h1
theorem k0_dev5_lt : ∀ (d0 : Dev nD) (v10 : BitVec 32) (v11 : BitVec 32) (v14 : BitVec 32) (v17 : BitVec 32) (v20 : BitVec 32) (k0_hw2 : k0_chk2 d0 v10 v11 v14 v17 v20), ∀ (k0_h1 : k0_cond1 d0 v10 v11 v14 v17 v20 = 1#1), (k0_dev5 d0 v11 v14 v17 v20) < nD := fun d0 v10 v11 v14 v17 v20 k0_hw2 k0_h1 => k0_hw2.2.2 k0_h1

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference.lean ====
abbrev S4x1024x1024 : Shape := ⟨3, ![4, 1024, 1024]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Peers.lean ====
/-
  Who a device sends to and who sends to it.

  A device `c` of the 2 × 4 × 4 mesh stands at `(c / 16, c / 4 % 4, c % 4)`; the kernel moves blocks along the middle
  axis only. Under a permutation `σ` of its four places, `c` sends to the device at place `σ y` of its own line and
  receives from the one at place `σ⁻¹ y`. This file defines the two, proves that they undo each other, and evaluates
  the words the kernel computes from a table that holds `σ`.
-/
module

public import proofs.«01_k».proof.Proof.Gen.KernelIdeal
public import Idealize.ShloMosaic.Lib.Decide

@[expose] public section

namespace Cert.Peers

open Idealize.ShloMosaic Cert.KernelIdeal

/-- The place of device `c` on the middle axis. -/
def yOf (c : Dev nD) : Fin 4 := ⟨c.val / 4 % 4, Nat.mod_lt _ (by decide)⟩

/-- The device at place `j` of `c`'s line. -/
def at_ (c : Dev nD) (j : Fin 4) : Dev nD :=
  ⟨c.val / 16 * 16 + j.val * 4 + c.val % 4, by have := c.isLt; have := j.isLt; simp only [nD] at *; omega⟩

theorem at_val (c : Dev nD) (j : Fin 4) : (at_ c j).val = c.val / 16 * 16 + j.val * 4 + c.val % 4 := rfl

theorem yOf_at (c : Dev nD) (j : Fin 4) : yOf (at_ c j) = j := by
  apply Fin.ext; have := j.isLt; simp only [yOf, at_val]; omega

theorem at_at (c : Dev nD) (j k : Fin 4) : at_ (at_ c j) k = at_ c k := by
  apply Fin.ext; have := j.isLt; simp only [at_val]; omega

theorem at_yOf (c : Dev nD) : at_ c (yOf c) = c := by
  apply Fin.ext; simp only [at_val, yOf]; omega

variable (σ : Equiv.Perm (Fin 4))

/-- The device `c` sends its block to. -/
def tgt (c : Dev nD) : Dev nD := at_ c (σ (yOf c))
/-- The device whose block `c` receives. -/
def src (c : Dev nD) : Dev nD := at_ c (σ.symm (yOf c))

theorem src_tgt (c : Dev nD) : src σ (tgt σ c) = c := by
  unfold src tgt; rw [yOf_at, at_at, Equiv.symm_apply_apply, at_yOf]
theorem tgt_src (c : Dev nD) : tgt σ (src σ c) = c := by
  unfold src tgt; rw [yOf_at, at_at, Equiv.apply_symm_apply, at_yOf]

/-- Sending as a permutation of the devices. -/
def line : Dev nD ≃ Dev nD := ⟨tgt σ, src σ, src_tgt σ, tgt_src σ⟩

/-- Whether `c` meets its two peers a second time: only when they are different devices. -/
def Twice (c : Dev nD) : Prop := σ (yOf c) ≠ σ.symm (yOf c)

instance (c : Dev nD) : Decidable (Twice σ c) := inferInstanceAs (Decidable (_ ≠ _))

theorem twice_tgt (c : Dev nD) : Twice σ (tgt σ c) ↔ Twice σ c := by
  unfold Twice tgt
  rw [yOf_at, Equiv.symm_apply_apply, not_iff_not]
  exact ⟨fun h => by rw [← h, Equiv.symm_apply_apply, h], fun h => by rw [h, Equiv.apply_symm_apply]⟩
theorem twice_src (c : Dev nD) : Twice σ (src σ c) ↔ Twice σ c := by
  rw [← twice_tgt σ (src σ c), tgt_src]

/-! ## The kernel's words -/

/-- The table's word for place `j`. -/
def w4 (j : Fin 4) : BitVec 32 := BitVec.ofNat 32 j.val

/-- The word the kernel finds by searching the table for the device's own place: the last place that holds it, else 0. -/
def found (c : Dev nD) (a0 a1 a2 a3 : BitVec 32) : BitVec 32 :=
  let y : BitVec 32 := Scalar.remsi (Scalar.divsi (Dev.word c) 4#32) 4#32
  Scalar.select (Scalar.cmpi .eq a3 y) 3#32 (Scalar.select (Scalar.cmpi .eq a2 y) 2#32
    (Scalar.select (Scalar.cmpi .eq a1 y) 1#32 (Scalar.select (Scalar.cmpi .eq a0 y) 0#32 0#32)))

theorem found_eq : ∀ (c : Dev nD) (a0 a1 a2 a3 : Fin 4), found c (w4 a0) (w4 a1) (w4 a2) (w4 a3)
    = w4 (if a3 = yOf c then 3 else if a2 = yOf c then 2 else if a1 = yOf c then 1 else 0) := by decide +kernel

theorem last_perm (y : Fin 4) :
    (if σ 3 = y then 3 else if σ 2 = y then 2 else if σ 1 = y then 1 else 0 : Fin 4) = σ.symm y := by
  obtain ⟨j, rfl⟩ := σ.surjective y
  simp only [σ.injective.eq_iff, Equiv.symm_apply_apply]
  revert j; decide

/-- In a table that holds `σ` it is the place that sends here. -/
theorem found_perm (c : Dev nD) : found c (w4 (σ 0)) (w4 (σ 1)) (w4 (σ 2)) (w4 (σ 3)) = w4 (σ.symm (yOf c)) := by
  rw [found_eq, last_perm]

theorem dev1_w4 : ∀ (c : Dev nD) (j : Fin 4), k0_dev1 c (w4 j) = (at_ c j).val := by decide +kernel
theorem dev3_w4 (c : Dev nD) (j : Fin 4) : k0_dev3 c (w4 j) = (at_ c j).val := dev1_w4 c j
theorem dev4_w4 (c : Dev nD) (j : Fin 4) : k0_dev4 c (w4 j) = (at_ c j).val := dev1_w4 c j

theorem dev2_found (c : Dev nD) (a0 a1 a2 a3 : BitVec 32) : k0_dev2 c a0 a1 a2 a3 = k0_dev1 c (found c a0 a1 a2 a3) := rfl
theorem dev5_found (c : Dev nD) (a0 a1 a2 a3 : BitVec 32) : k0_dev5 c a0 a1 a2 a3 = k0_dev1 c (found c a0 a1 a2 a3) := rfl

theorem dev1_tgt (c : Dev nD) : k0_dev1 c (w4 (σ (yOf c))) = (tgt σ c).val := dev1_w4 c _
theorem dev2_src (c : Dev nD) : k0_dev2 c (w4 (σ 0)) (w4 (σ 1)) (w4 (σ 2)) (w4 (σ 3)) = (src σ c).val := by
  rw [dev2_found, found_perm]; exact dev1_w4 c _
theorem dev3_tgt (c : Dev nD) : k0_dev3 c (w4 (σ (yOf c))) = (tgt σ c).val := dev3_w4 c _
theorem dev4_tgt (c : Dev nD) : k0_dev4 c (w4 (σ (yOf c))) = (tgt σ c).val := dev4_w4 c _
theorem dev5_src (c : Dev nD) : k0_dev5 c (w4 (σ 0)) (w4 (σ 1)) (w4 (σ 2)) (w4 (σ 3)) = (src σ c).val := by
  rw [dev5_found, found_perm]; exact dev1_w4 c _

/-- The word of the branch before the second meeting. -/
def differ (a b : BitVec 32) : BitVec 1 := Scalar.cmpi .ne (Scalar.extui (Scalar.cmpi .ne a b) : BitVec 32) 0#32
theorem differ_w4 : ∀ a b : Fin 4, differ (w4 a) (w4 b) = 1#1 ↔ a ≠ b := by decide
theorem cond1_differ (c : Dev nD) (v a0 a1 a2 a3 : BitVec 32) : k0_cond1 c v a0 a1 a2 a3 = differ v (found c a0 a1 a2 a3) := rfl

theorem cond1_twice (c : Dev nD) :
    k0_cond1 c (w4 (σ (yOf c))) (w4 (σ 0)) (w4 (σ 1)) (w4 (σ 2)) (w4 (σ 3)) = 1#1 ↔ Twice σ c := by
  rw [cond1_differ, found_perm, differ_w4]; exact Iff.rfl

/-- The first side condition holds: the peer the table names is a device. -/
theorem chk1_perm (c : Dev nD) : k0_chk1 c (w4 (σ (yOf c))) := by
  unfold k0_chk1; rw [dev1_tgt, dev3_tgt]; exact ⟨(tgt σ c).isLt, (tgt σ c).isLt⟩
/-- So does the second, of the peer found. -/
theorem chk2_perm (c : Dev nD) : k0_chk2 c (w4 (σ (yOf c))) (w4 (σ 0)) (w4 (σ 1)) (w4 (σ 2)) (w4 (σ 3)) := by
  unfold k0_chk2; rw [dev2_src, dev4_tgt, dev5_src]; exact ⟨(src σ c).isLt, fun _ => (tgt σ c).isLt, fun _ => (src σ c).isLt⟩

end Cert.Peers
-- ==== Proof.Protocol.lean ====
/-
  The protocol of the kernel, under the rounds library (Lib/Rounds.lean).

  Every device `c` has four semaphore cells, each with a single round:

  * the BARRIER cell: two units. One is signalled by `src c` and hands over nothing; one is signalled by `tgt c` and
    hands over `tgt c`'s result buffer, so that `c` may copy into it. `c` waits for both.
  * the SEND cell: paid by `c`'s own copy, once its block has been read; it gives `c`'s block back.
  * the RECEIVE cell: paid by `src c`'s copy, once it has landed; it gives `c`'s result buffer back, holding `src c`'s block.
  * the EXIT cell: two units, from `src c` and from `tgt c`, which hand over nothing; only where the two are different
    devices. Otherwise the cell has no round.

  A device waits on its barrier owing its receiver's receive credit and the exit units, on its send and receive cells
  owing the exit units, on its exit cell owing nothing: the levels are barrier, then receive, then exit, and send (like the
  staging copies) below all.
-/
module

public import proofs.«01_k».proof.Proof.Peers
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Shuffle

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's rounds and this kernel's, whose duties are named by `Bool` -/

abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (σ : Equiv.Perm (Fin 4))
variable (m : (ℓ : Loc nD τ sig) → Buf (Elt F) ℓ) (ρ : Dev nD → PrngReg)

/-! ## Memrefs, semaphores, cells -/

abbrev xM : Memref sig .tc .hbm S1x1024x1024 .f32 := Memref.whole main_arg0
abbrev oM : Memref sig .tc .hbm S1x1024x1024 .f32 := Memref.whole main_v1
abbrev pM : Memref sig .tc .smem S4 .i32 := Memref.whole cc0_stg0_0

abbrev barS : Sem sig := (SemArray.scalar (sig.barrier 0 rfl) : Sems sig S_).sem
abbrev exitS : Sem sig := cc0_scoped0.sem
abbrev sendS : DmaSem sig := cc0_scratch0.sem
abbrev recvS : DmaSem sig := cc0_scratch1.sem

abbrev barCell (c : Dev nD) : GSem nD τ sig := ((c : Thread nD τ), .reg barS)
abbrev exitCell (c : Dev nD) : GSem nD τ sig := ((c : Thread nD τ), .reg exitS)
abbrev sendCell (c : Dev nD) : GSem nD τ sig := ((c : Thread nD τ), .dma sendS)
abbrev recvCell (c : Dev nD) : GSem nD τ sig := ((c : Thread nD τ), .dma recvS)

/-- The kernel's own scoped semaphores: exit, send, receive; -/
abbrev osem : Fin 3 → SemLoc sig := fun | 0 => .reg exitS | 1 => .dma sendS | 2 => .dma recvS
/-- and with the barrier all four. -/
abbrev csem : Fin 4 → SemLoc sig := fun | 0 => .reg barS | 1 => .dma sendS | 2 => .dma recvS | 3 => .reg exitS
abbrev kcell (ck : Dev nD × Fin 4) : GSem nD τ sig := ((ck.1 : Thread nD τ), csem ck.2)

theorem csem_inj : Function.Injective csem := by decide
theorem exit_ne_bar : (SemLoc.reg exitS : SemLoc sig) ≠ .reg barS := by decide
theorem send_ne_bar : (SemLoc.dma sendS : SemLoc sig) ≠ .reg barS := by decide
theorem recv_ne_bar : (SemLoc.dma recvS : SemLoc sig) ≠ .reg barS := by decide
theorem send_ne_exit : (SemLoc.dma sendS : SemLoc sig) ≠ .reg exitS := by decide
theorem recv_ne_exit : (SemLoc.dma recvS : SemLoc sig) ≠ .reg exitS := by decide
theorem send_ne_recv : (SemLoc.dma sendS : SemLoc sig) ≠ .dma recvS := by decide

/-- The credit of one block's copy. -/
def N : ℕ := (oM : Memref sig .tc .hbm S1x1024x1024 .f32).view.dmaCredit
theorem N_pos : 0 < N := View.dmaCredit_pos _ (by decide)
theorem N_eq : N = (oM : Memref sig .tc .hbm S1x1024x1024 .f32).view.dmaCredit := rfl
theorem N_eq' : N = (xM : Memref sig .tc .hbm S1x1024x1024 .f32).view.dmaCredit := rfl
theorem N_amount : (oM : Memref sig .tc .hbm S1x1024x1024 .f32).view.amount (.dma recvS) = N := rfl
attribute [irreducible] N

/-! ## Contents -/

/-- Device `c`'s block of `x` at launch. -/
def blockOf (c : Dev nD) : Buf (Elt F) ((c : Thread nD τ).loc main_arg0) := m ((c : Thread nD τ).loc main_arg0)
/-- What device `c`'s result buffer holds once `src c`'s copy has landed. -/
def landed (c : Dev nD) : Buf (Elt F) ((c : Thread nD τ).loc main_v1) := blockOf m (src σ c)

/-- Device `c`'s staged table. -/
def pstg (c : Dev nD) : (cc0_stg0_0 : Ref sig .tc).ty.Contents (Elt F) :=
  (win0_0.blk (0 : Fin 1)).view.read (Elt F) (m ((c : Thread nD τ).loc main_arg1))

def xPts (c : Dev nD) : sProp 𝕄 :=
  (xM : Memref sig .tc .hbm S1x1024x1024 .f32).view.loc (c : Thread nD τ) ↦[(xM : Memref sig .tc .hbm S1x1024x1024 .f32).view.set]{fullShare} blockOf m c
def oPts (c : Dev nD) (f : Buf (Elt F) ((c : Thread nD τ).loc main_v1)) : sProp 𝕄 :=
  (oM : Memref sig .tc .hbm S1x1024x1024 .f32).view.loc (c : Thread nD τ) ↦[(oM : Memref sig .tc .hbm S1x1024x1024 .f32).view.set]{fullShare} f

omit [FloatOps F] in
instance xPts_storable (c : Dev nD) : BI.Storable (upEmb : UEmb _ 𝕄) (xPts (F := F) m c) := by unfold xPts; infer_instance
omit [FloatOps F] in
instance oPts_storable (c : Dev nD) (f) : BI.Storable (upEmb : UEmb _ 𝕄) (oPts (F := F) c f) := by unfold oPts; infer_instance

omit [FloatOps F] in
theorem xPts_eq (c : Dev nD) : xPts m c = (((c : Thread nD τ).loc main_arg0) ↦{fullShare} blockOf m c : sProp 𝕄) := by
  unfold xPts; rw [View.set_whole]
omit [FloatOps F] in
theorem oPts_eq (c : Dev nD) (f : Buf (Elt F) ((c : Thread nD τ).loc main_v1)) :
    oPts c f = (((c : Thread nD τ).loc main_v1) ↦{fullShare} f : sProp 𝕄) := by
  unfold oPts; rw [View.set_whole]

omit [FloatOps F] in
/-- A copy of the whole of one buffer onto the whole of the other leaves there what the first held. -/
theorem copied (c d : Dev nD) (fd : Buf (Elt F) ((d : Thread nD τ).loc main_v1)) (fs : Buf (Elt F) ((c : Thread nD τ).loc main_arg0)) :
    (oM : Memref sig .tc .hbm S1x1024x1024 .f32).view.write (Elt F) fd
      ((xM : Memref sig .tc .hbm S1x1024x1024 .f32).view.read (Elt F) fs) Finset.univ = fs := by
  show (View.whole main_v1).write (Elt F) fd ((View.whole main_arg0).read (Elt F) fs) Finset.univ = fs
  rw [View.read_whole]
  exact View.write_whole_univ _ _ _

/-! ## The schedule -/

/-- What `tgt c` hands `c` at the barrier: its result buffer. -/
def barPay (c : Dev nD) : sProp 𝕄 := iprop(∃ f, oPts (tgt σ c) f)

omit [FloatOps F] in
instance barPay_storable (c : Dev nD) : BI.Storable (upEmb : UEmb _ 𝕄) (barPay (F := F) σ c) := by unfold barPay; infer_instance

/-- The duties of round 0: both names for a barrier cell and, where the peers differ, for an exit cell; one for a copy's. -/
def duties0 (g : GSem nD τ sig) : Finset Bool :=
  if g.1.2 ≠ .tc then ∅
  else if g.2 = .reg barS then Finset.univ
  else if g.2 = .reg exitS then (if Twice σ g.1.1 then Finset.univ else ∅)
  else if g.2 = .dma sendS ∨ g.2 = .dma recvS then {false} else ∅

def sched : Rounds.Schedule (GSem nD τ sig) Bool 𝕄 where
  duties g r := if r = 0 then duties0 σ g else ∅
  unitless _ := False
  amount g _ _ := if g.2 = .reg barS then 1 else if g.2 = .reg exitS then 1 else N
  payload g _ d :=
    if g.2 = .reg barS then (if d then barPay σ g.1.1 else iprop(emp))
    else if g.2 = .dma sendS then xPts m g.1.1
    else if g.2 = .dma recvS then oPts g.1.1 (landed σ m g.1.1)
    else iprop(emp)
  amount_pos g _ _ _ := by
    split
    · exact Nat.one_pos
    · split
      · exact Nat.one_pos
      · exact N_pos

instance sched_payload_storable (g : GSem nD τ sig) (r : ℕ) (d : Bool) :
    BI.Storable (upEmb : UEmb _ 𝕄) ((sched (F := F) σ m).payload g r d) := by
  dsimp only [sched]
  (repeat' split) <;> infer_instance

omit [FloatOps F] in
theorem amountOf_one (Rd : Schedule (GSem nD τ sig) Bool 𝕄) (g : GSem nD τ sig) (r : ℕ) (d : Bool) :
    Rd.amountOf g r {d} = Rd.amount g r d := Finset.sum_singleton _ _

section Tables
variable (c : Dev nD)

omit [FloatOps F] in
theorem duties_bar : (sched (F := F) σ m).duties (barCell c) 0 = Finset.univ := by
  dsimp only [sched, duties0]; rw [if_pos rfl, if_neg (fun h => h rfl)]; exact if_pos rfl
omit [FloatOps F] in
theorem duties_exit (h : Twice σ c) : (sched (F := F) σ m).duties (exitCell c) 0 = Finset.univ := by
  dsimp only [sched, duties0]; rw [if_pos rfl, if_neg (fun h => h rfl), if_neg exit_ne_bar, if_pos rfl]; exact if_pos h
omit [FloatOps F] in
theorem duties_no_exit (h : ¬ Twice σ c) : (sched (F := F) σ m).duties (exitCell c) 0 = ∅ := by
  dsimp only [sched, duties0]; rw [if_pos rfl, if_neg (fun h => h rfl), if_neg exit_ne_bar, if_pos rfl]; exact if_neg h
omit [FloatOps F] in
theorem duties_send : (sched (F := F) σ m).duties (sendCell c) 0 = {false} := by
  dsimp only [sched, duties0]; rw [if_pos rfl, if_neg (fun h => h rfl), if_neg send_ne_bar, if_neg send_ne_exit]; exact if_pos (.inl rfl)
omit [FloatOps F] in
theorem duties_recv : (sched (F := F) σ m).duties (recvCell c) 0 = {false} := by
  dsimp only [sched, duties0]; rw [if_pos rfl, if_neg (fun h => h rfl), if_neg recv_ne_bar, if_neg recv_ne_exit]; exact if_pos (.inr rfl)
omit [FloatOps F] in
theorem duties_later (g : GSem nD τ sig) : ∀ r, 1 ≤ r → (sched (F := F) σ m).duties g r = ∅ :=
  fun r hr => by dsimp only [sched]; exact if_neg (by omega)
omit [FloatOps F] in
/-- Where the peers are one device the exit cell never has a duty. -/
theorem duties_never (h : ¬ Twice σ c) : ∀ r, 0 ≤ r → (sched (F := F) σ m).duties (exitCell c) r = ∅ := fun r _ => by
  rcases Nat.eq_zero_or_pos r with rfl | hr
  · exact duties_no_exit σ m c h
  · exact duties_later σ m _ r hr

omit [FloatOps F] in
theorem amount_bar (d : Bool) : (sched (F := F) σ m).amount (barCell c) 0 d = 1 := by dsimp only [sched]; exact if_pos rfl
omit [FloatOps F] in
theorem amount_exit (d : Bool) : (sched (F := F) σ m).amount (exitCell c) 0 d = 1 := by
  dsimp only [sched]; rw [if_neg exit_ne_bar]; exact if_pos rfl
omit [FloatOps F] in
theorem amount_send (d : Bool) : (sched (F := F) σ m).amount (sendCell c) 0 d = N := by
  dsimp only [sched]; rw [if_neg send_ne_bar]; exact if_neg send_ne_exit
omit [FloatOps F] in
theorem amount_recv (d : Bool) : (sched (F := F) σ m).amount (recvCell c) 0 d = N := by
  dsimp only [sched]; rw [if_neg recv_ne_bar]; exact if_neg recv_ne_exit

omit [FloatOps F] in
theorem expect_bar : (sched (F := F) σ m).expect (barCell c) 0 = 2 := by
  unfold Schedule.expect Schedule.amountOf
  rw [duties_bar, Finset.sum_congr rfl fun d _ => amount_bar σ m c d, Finset.sum_const, Finset.card_univ, Fintype.card_bool, smul_eq_mul]
omit [FloatOps F] in
theorem expect_exit (h : Twice σ c) : (sched (F := F) σ m).expect (exitCell c) 0 = 2 := by
  unfold Schedule.expect Schedule.amountOf
  rw [duties_exit σ m c h, Finset.sum_congr rfl fun d _ => amount_exit σ m c d, Finset.sum_const, Finset.card_univ, Fintype.card_bool, smul_eq_mul]
omit [FloatOps F] in
theorem expect_send : (sched (F := F) σ m).expect (sendCell c) 0 = N := by
  rw [Schedule.expect, duties_send, amountOf_one, amount_send]
omit [FloatOps F] in
theorem expect_recv : (sched (F := F) σ m).expect (recvCell c) 0 = N := by
  rw [Schedule.expect, duties_recv, amountOf_one, amount_recv]

omit [FloatOps F] in
theorem payload_bar_true : (sched (F := F) σ m).payload (barCell c) 0 true = barPay σ c := by
  dsimp only [sched]; rw [if_pos rfl, if_pos rfl]
omit [FloatOps F] in
theorem payload_bar_false : (sched (F := F) σ m).payload (barCell c) 0 false = iprop(emp) := by
  dsimp only [sched]; rw [if_pos rfl]; exact if_neg Bool.false_ne_true
omit [FloatOps F] in
theorem payload_send (d : Bool) : (sched (F := F) σ m).payload (sendCell c) 0 d = xPts m c := by
  dsimp only [sched]; rw [if_neg send_ne_bar, if_pos rfl]
omit [FloatOps F] in
theorem payload_recv (d : Bool) : (sched (F := F) σ m).payload (recvCell c) 0 d = oPts c (landed σ m c) := by
  dsimp only [sched]; rw [if_neg recv_ne_bar, if_neg send_ne_recv.symm, if_pos rfl]
omit [FloatOps F] in
theorem payload_exit (d : Bool) : (sched (F := F) σ m).payload (exitCell c) 0 d = iprop(emp) := by
  dsimp only [sched]; rw [if_neg exit_ne_bar, if_neg send_ne_exit.symm, if_neg recv_ne_exit.symm]

omit [FloatOps F] in
/-- What the wait on the barrier returns; -/
theorem rest_bar : bigSep ((sched (F := F) σ m).duties (barCell c) 0 \ ∅) (fun d => (sched (F := F) σ m).payload (barCell c) 0 d)
    = iprop(emp ∗ barPay σ c) := by
  rw [Finset.sdiff_empty, duties_bar, bigSep_univ_eq_bigSepL [false, true] (by decide) (by decide), bigSepL_cons_cons, bigSepL_singleton,
    payload_bar_false, payload_bar_true]
  rfl
omit [FloatOps F] in
/-- on the send cell; -/
theorem rest_send : bigSep ((sched (F := F) σ m).duties (sendCell c) 0 \ ∅) (fun d => (sched (F := F) σ m).payload (sendCell c) 0 d) = xPts m c := by
  rw [Finset.sdiff_empty, duties_send, bigSep_singleton, payload_send]
omit [FloatOps F] in
/-- on the receive cell. -/
theorem rest_recv : bigSep ((sched (F := F) σ m).duties (recvCell c) 0 \ ∅) (fun d => (sched (F := F) σ m).payload (recvCell c) 0 d)
    = oPts c (landed σ m c) := by
  rw [Finset.sdiff_empty, duties_recv, bigSep_singleton, payload_recv]

end Tables

/-! ## What a device owes; the levels -/

/-- The exit units `c` owes: one to each peer, if they differ. -/
def OE (c : Dev nD) : CellTallies nD τ sig Unit :=
  if Twice σ c then tallyAt (exitCell (src σ c)) () 1 + tallyAt (exitCell (tgt σ c)) () 1 else 0
/-- From the barrier wait on: the copy's credit too. -/
def OR (c : Dev nD) : CellTallies nD τ sig Unit := OE σ c + tallyAt (recvCell (tgt σ c)) () N
/-- Before the second signal: `src c`'s barrier unit; -/
def OB (c : Dev nD) : CellTallies nD τ sig Unit := OR σ c + tallyAt (barCell (src σ c)) () 1
/-- at launch: `tgt c`'s too. -/
def O₀ (c : Dev nD) : CellTallies nD τ sig Unit := OB σ c + tallyAt (barCell (tgt σ c)) () 1

def L (g : GSem nD τ sig) : Finset Unit := if g.1.2 = .tc then {()} else ∅
def lvS (s : SemLoc sig) : ℕ := if s = .reg barS then 1 else if s = .dma recvS then 2 else if s = .reg exitS then 3 else 0
def lv (g : GSem nD τ sig) (_ : Unit) : ℕ := lvS g.2

theorem lv_bar : lvS (.reg barS) = 1 := if_pos rfl
theorem lv_recv : lvS (.dma recvS) = 2 := by unfold lvS; rw [if_neg recv_ne_bar]; exact if_pos rfl
theorem lv_exit : lvS (.reg exitS) = 3 := by unfold lvS; rw [if_neg exit_ne_bar, if_neg recv_ne_exit.symm]; exact if_pos rfl
theorem lv_send : lvS (.dma sendS) = 0 := by unfold lvS; rw [if_neg send_ne_bar, if_neg send_ne_recv]; exact if_neg send_ne_exit

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem OE_pos {c : Dev nD} {g : GSem nD τ sig} {u : Unit} (h : 0 < OE σ c g u) : ∃ d, g = exitCell d := by
  unfold OE at h
  split at h
  · rw [Pi.add_apply, Finsupp.add_apply] at h
    rcases Nat.add_pos_iff_pos_or_pos.mp h with h | h
    · exact ⟨_, tally_pos h⟩
    · exact ⟨_, tally_pos h⟩
  · exact absurd h (Nat.lt_irrefl 0)
theorem OR_pos {c : Dev nD} {g : GSem nD τ sig} {u : Unit} (h : 0 < OR σ c g u) : ∃ d, g = exitCell d ∨ g = recvCell d := by
  unfold OR at h
  rw [Pi.add_apply, Finsupp.add_apply] at h
  rcases Nat.add_pos_iff_pos_or_pos.mp h with h | h
  · obtain ⟨d, h⟩ := OE_pos σ h; exact ⟨d, .inl h⟩
  · exact ⟨_, .inr (tally_pos h)⟩
theorem O₀_pos {c : Dev nD} {g : GSem nD τ sig} {u : Unit} (h : 0 < O₀ σ c g u) :
    ∃ d, g = exitCell d ∨ g = recvCell d ∨ g = barCell d := by
  unfold O₀ OB at h
  rw [Pi.add_apply, Finsupp.add_apply, Pi.add_apply, Finsupp.add_apply] at h
  rcases Nat.add_pos_iff_pos_or_pos.mp h with h | h
  · rcases Nat.add_pos_iff_pos_or_pos.mp h with h | h
    · obtain ⟨d, h⟩ := OR_pos σ h; exact ⟨d, h.imp_right .inl⟩
    · exact ⟨_, .inr (.inr (tally_pos h))⟩
  · exact ⟨_, .inr (.inr (tally_pos h))⟩

omit [FloatOps F] in
/-- A device may wait on one of its cells while it owes only to cells of TensorCores at higher levels. -/
theorem mayWait_below (c : Dev nD) (s : SemLoc sig) (O : CellTallies nD τ sig Unit)
    (h : ∀ g u, 0 < O g u → ∃ (d : Dev nD) (s' : SemLoc sig), g = ((d : Thread nD τ), s') ∧ lvS s < lvS s') :
    (levAts L lv : sProp 𝕄) ⊢ MayWait (c : Thread nD τ) s () O :=
  MayOwe.of_cut (L := L) (lev := lv) (lvS s) (fun p hp => by rw [Finset.mem_singleton.mp hp, L_tc]; exact Finset.mem_singleton_self _)
    (fun g u hg => by obtain ⟨d, s', rfl, -⟩ := h g u hg; rw [L_tc]; exact Finset.mem_singleton_self _)
    (fun p hp => by rw [Finset.mem_singleton.mp hp]; exact le_rfl)
    (fun g u hg => by obtain ⟨d, s', rfl, hl⟩ := h g u hg; exact hl)

omit [FloatOps F] in
theorem mayWait_low (c : Dev nD) (s : SemLoc sig) (hs : lvS s = 0) (O : CellTallies nD τ sig Unit) (hO : O = O₀ σ c ∨ O = 0) :
    (levAts L lv : sProp 𝕄) ⊢ MayWait (c : Thread nD τ) s () O := by
  refine mayWait_below c s O fun g u h => ?_
  rcases hO with rfl | rfl
  · obtain ⟨d, rfl | rfl | rfl⟩ := O₀_pos σ h
    · exact ⟨d, _, rfl, by rw [hs, lv_exit]; decide⟩
    · exact ⟨d, _, rfl, by rw [hs, lv_recv]; decide⟩
    · exact ⟨d, _, rfl, by rw [hs, lv_bar]; decide⟩
  · exact absurd h (Nat.lt_irrefl 0)
omit [FloatOps F] in
theorem mayWait_bar (c : Dev nD) : (levAts L lv : sProp 𝕄) ⊢ MayWait (c : Thread nD τ) (.reg barS) () (OR σ c) :=
  mayWait_below c _ _ fun g u h => by
    obtain ⟨d, rfl | rfl⟩ := OR_pos σ h
    · exact ⟨d, _, rfl, by rw [lv_bar, lv_exit]; decide⟩
    · exact ⟨d, _, rfl, by rw [lv_bar, lv_recv]; decide⟩
omit [FloatOps F] in
theorem mayWait_send (c : Dev nD) : (levAts L lv : sProp 𝕄) ⊢ MayWait (c : Thread nD τ) (.dma sendS) () (OE σ c) :=
  mayWait_below c _ _ fun g u h => by
    obtain ⟨d, rfl⟩ := OE_pos σ h
    exact ⟨d, _, rfl, by rw [lv_send, lv_exit]; decide⟩
omit [FloatOps F] in
theorem mayWait_recv (c : Dev nD) : (levAts L lv : sProp 𝕄) ⊢ MayWait (c : Thread nD τ) (.dma recvS) () (OE σ c) :=
  mayWait_below c _ _ fun g u h => by
    obtain ⟨d, rfl⟩ := OE_pos σ h
    exact ⟨d, _, rfl, by rw [lv_recv, lv_exit]; decide⟩

/-! ## What a device starts from -/

/-- The invariants of the cells `c`'s body touches: its own four, both peers' barrier and exit cells, its receiver's
    receive cell. -/
def invs (K : Dev nD × Fin 4 → ℕ) (c : Dev nD) : sProp 𝕄 :=
  iprop(cellInv EX (sched σ m) (K (c, 0)) (barCell c) ∗ cellInv EX (sched σ m) (K (c, 1)) (sendCell c)
    ∗ cellInv EX (sched σ m) (K (c, 2)) (recvCell c) ∗ cellInv EX (sched σ m) (K (c, 3)) (exitCell c)
    ∗ cellInv EX (sched σ m) (K (tgt σ c, 0)) (barCell (tgt σ c)) ∗ cellInv EX (sched σ m) (K (src σ c, 0)) (barCell (src σ c))
    ∗ cellInv EX (sched σ m) (K (tgt σ c, 2)) (recvCell (tgt σ c))
    ∗ cellInv EX (sched σ m) (K (tgt σ c, 3)) (exitCell (tgt σ c)) ∗ cellInv EX (sched σ m) (K (src σ c, 3)) (exitCell (src σ c)))

instance invs_persistent (K : Dev nD × Fin 4 → ℕ) (c : Dev nD) : BI.Persistent (invs (F := F) σ m K c) := by unfold invs; infer_instance

/-- Round 0 is reached on the cells `c` pays. -/
def marks (c : Dev nD) : sProp 𝕄 :=
  iprop(reached EX (barCell (tgt σ c)) 0 ∗ reached EX (barCell (src σ c)) 0 ∗ reached EX (recvCell (tgt σ c)) 0 ∗ reached EX (sendCell c) 0
    ∗ reached EX (exitCell (tgt σ c)) 0 ∗ reached EX (exitCell (src σ c)) 0)

instance marks_persistent (c : Dev nD) : BI.Persistent (marks (F := F) σ c) := by unfold marks; infer_instance

/-- `c`'s positions on its own cells; -/
def poss (c : Dev nD) : sProp 𝕄 :=
  iprop(atPos EX (barCell c) 0 ∅ 0 ∗ atPos EX (sendCell c) 0 ∅ 0 ∗ atPos EX (recvCell c) 0 ∅ 0 ∗ atPos EX (exitCell c) 0 ∅ 0)
/-- the duties `c` pays: a barrier unit to each peer, its copy's two, an exit unit to each peer. -/
def pays (c : Dev nD) : sProp 𝕄 :=
  iprop(dutyTok EX (barCell (tgt σ c)) 0 false ∗ dutyTok EX (barCell (src σ c)) 0 true
    ∗ dutyTok EX (sendCell c) 0 false ∗ dutyTok EX (recvCell (tgt σ c)) 0 false
    ∗ dutyTok EX (exitCell (tgt σ c)) 0 false ∗ dutyTok EX (exitCell (src σ c)) 0 true)

def ghost (K : Dev nD × Fin 4 → ℕ) (c : Dev nD) : sProp 𝕄 := iprop(invs σ m K c ∗ marks σ c ∗ poss c ∗ pays σ c)

/-- The tokens of the units others owe `c`'s cells. -/
def OX (c : Dev nD) : CellTallies nD τ sig Unit := if Twice σ c then tallyAt (exitCell c) () 2 else 0
def creds (c : Dev nD) : sProp 𝕄 := iprop(cred (tallyAt (barCell c) () 2) ∗ cred (tallyAt (recvCell c) () N) ∗ cred (OX σ c))

def start (c : Dev nD) : sProp 𝕄 :=
  iprop((∃ K, ghost σ m K c) ∗ creds σ c ∗ levAts L lv ∗ xPts m c ∗ ∃ f, oPts c f)

/-- After the body: the block kept, the received block in the result buffer, every cell of `c` closed at zero. -/
def Φ₁ (c : Dev nD) : sProp 𝕄 :=
  iprop(xPts m c ∗ oPts c (landed σ m c) ∗ semVal (barCell c) 0 ∗ semVal (exitCell c) 0 ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => pstg m c
    | ⟨_ + 1, h⟩ => absurd h (Nat.not_lt.2 (Nat.le_add_left _ _))
  Φ t := match t with
    | ⟨0, _⟩ => start σ m c
    | ⟨_ + 1, _⟩ => Φ₁ σ m c
  q _ := fullShare
  owed t := match t with
    | ⟨0, _⟩ => O₀ σ c
    | ⟨_ + 1, _⟩ => 0

abbrev 𝒱₀ : Variants := Variants.none

/-! ## The table -/

/-- Place `j` of a table, as an index. -/
def ix (j : Fin 4) : S4.Idx := fun a => ⟨0 + j.val, by have := j.isLt; fin_cases a; show 0 + j.val < 4; omega⟩

/-- The table every device holds is `σ`. -/
def Table : Prop := ∀ (c : Dev nD) (j : Fin 4), (m ((c : Thread nD τ).loc main_arg1) : S4.Idx → BitVec 32) (ix j) = w4 (σ j)

/-- The word a load of one element reads of the staged table. -/
abbrev word (r : Rect S4) (h : r.shape.numel = 1) (ts : (cc0_stg0_0 : Ref sig .tc).ty.Contents (Elt F)) : BitVec 32 :=
  ((Memref.whole cc0_stg0_0).access r : View sig .tc _ _ _).read (Elt F) ts (Shape.Idx.first (h.symm ▸ Nat.one_pos))

abbrev rY (c : Dev nD) : Rect S4 := Rect.unit (s := S4) (k0_off1 c) S1.size (k0_off1_inb c)
abbrev rJ0 : Rect S4 := Rect.unit (s := S4) ![0] S1.size inb_S4_S1_0
abbrev rJ1 : Rect S4 := Rect.unit (s := S4) ![1] S1.size inb_S4_S1_1
abbrev rJ2 : Rect S4 := Rect.unit (s := S4) ![2] S1.size inb_S4_S1_2
abbrev rJ3 : Rect S4 := Rect.unit (s := S4) ![3] S1.size inb_S4_S1_3

variable {σ m}

omit [FloatOps F] in
/-- The load at the device's own place reads the place `σ` sends it to; -/
theorem word_own (h : Table (F := F) σ m) (c : Dev nD) : word (rY c) numel1_S1 (pstg m c) = w4 (σ (yOf c)) := by
  rw [← h c (yOf c)]
  show m ((c : Thread nD τ).loc main_arg1) _ = m ((c : Thread nD τ).loc main_arg1) _
  refine congrArg _ (funext fun a => Fin.ext ?_)
  fin_cases a; fin_cases c <;> rfl
omit [FloatOps F] in
/-- the other loads read the table's four words. -/
theorem word_0 (h : Table (F := F) σ m) (c : Dev nD) : word rJ0 numel1_S1 (pstg m c) = w4 (σ 0) := by
  rw [← h c 0]
  show m ((c : Thread nD τ).loc main_arg1) _ = m ((c : Thread nD τ).loc main_arg1) _
  refine congrArg _ (funext fun a => Fin.ext ?_); fin_cases a; rfl
omit [FloatOps F] in
theorem word_1 (h : Table (F := F) σ m) (c : Dev nD) : word rJ1 numel1_S1 (pstg m c) = w4 (σ 1) := by
  rw [← h c 1]
  show m ((c : Thread nD τ).loc main_arg1) _ = m ((c : Thread nD τ).loc main_arg1) _
  refine congrArg _ (funext fun a => Fin.ext ?_); fin_cases a; rfl
omit [FloatOps F] in
theorem word_2 (h : Table (F := F) σ m) (c : Dev nD) : word rJ2 numel1_S1 (pstg m c) = w4 (σ 2) := by
  rw [← h c 2]
  show m ((c : Thread nD τ).loc main_arg1) _ = m ((c : Thread nD τ).loc main_arg1) _
  refine congrArg _ (funext fun a => Fin.ext ?_); fin_cases a; rfl
omit [FloatOps F] in
theorem word_3 (h : Table (F := F) σ m) (c : Dev nD) : word rJ3 numel1_S1 (pstg m c) = w4 (σ 3) := by
  rw [← h c 3]
  show m ((c : Thread nD τ).loc main_arg1) _ = m ((c : Thread nD τ).loc main_arg1) _
  refine congrArg _ (funext fun a => Fin.ext ?_); fin_cases a; rfl

end Cert.Shuffle

end
-- ==== Proof.Body.lean ====
/-
  One device's body, executed symbolically: the five loads of the staged table, the two signals and the wait of the first
  meeting, the copy and its two waits, and the second meeting where the two peers differ.
-/
module

public import proofs.«01_k».proof.Proof.Protocol

@[expose] public section

noncomputable section

namespace Cert.Shuffle

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Equiv.Perm (Fin 4))
variable (m : (ℓ : Loc nD τ sig) → Buf (Elt F) ℓ)

/-! ## The peers the program names -/

theorem to_tgt (c : Dev nD) (h) : (⟨k0_dev1 c (w4 (σ (yOf c))), h⟩ : Dev nD) = tgt σ c := Fin.ext (dev1_tgt σ c)
theorem to_src (c : Dev nD) (h) : (⟨k0_dev2 c (w4 (σ 0)) (w4 (σ 1)) (w4 (σ 2)) (w4 (σ 3)), h⟩ : Dev nD) = src σ c := Fin.ext (dev2_src σ c)
theorem copy_tgt (c : Dev nD) (h) : (⟨k0_dev3 c (w4 (σ (yOf c))), h⟩ : Dev nD) = tgt σ c := Fin.ext (dev3_tgt σ c)
theorem exit_tgt (c : Dev nD) (h) : (⟨k0_dev4 c (w4 (σ (yOf c))), h⟩ : Dev nD) = tgt σ c := Fin.ext (dev4_tgt σ c)
theorem exit_src (c : Dev nD) (h) : (⟨k0_dev5 c (w4 (σ 0)) (w4 (σ 1)) (w4 (σ 2)) (w4 (σ 3)), h⟩ : Dev nD) = src σ c := Fin.ext (dev5_src σ c)

variable (K : Dev nD × Fin 4 → ℕ)

/-! ## The copy -/

omit [FloatOps F] in
/-- The block read is what the send cell is due; -/
theorem send_pays (c : Dev nD) :
    ((xM : Memref sig .tc .hbm S1x1024x1024 .f32).view.loc (c : Thread nD τ) ↦[(xM : Memref sig .tc .hbm S1x1024x1024 .f32).view.set]{fullShare} blockOf m c : sProp 𝕄)
      ⊢ (sched (F := F) σ m).payload (sendCell c) 0 false := by
  rw [payload_send]; exact BI.Entails.refl _
omit [FloatOps F] in
/-- the receiver's buffer rewritten is what its receive cell is due. -/
theorem recv_pays (c : Dev nD) (fn : Buf (Elt F) ((tgt σ c : Thread nD τ).loc main_v1)) :
    ((oM : Memref sig .tc .hbm S1x1024x1024 .f32).view.loc (tgt σ c : Thread nD τ) ↦[(oM : Memref sig .tc .hbm S1x1024x1024 .f32).view.set]{fullShare}
        ((oM : Memref sig .tc .hbm S1x1024x1024 .f32).view.write (Elt F) fn
          ((xM : Memref sig .tc .hbm S1x1024x1024 .f32).view.read (Elt F) (blockOf m c)) Finset.univ) : sProp 𝕄)
      ⊢ (sched (F := F) σ m).payload (recvCell (tgt σ c)) 0 false := by
  rw [payload_recv, copied c (tgt σ c)]
  unfold oPts landed
  rw [src_tgt]

/-- The copy to a device `n` that equals `tgt c`: the block lends its elements and comes back by the send cell, the
    receiver's buffer lands rewritten by the receive cell. -/
theorem wp_copy (c n : Dev nD) (hn : n = tgt σ c) {α : Type} (fn : Buf (Elt F) ((tgt σ c : Thread nD τ).loc main_v1)) (W : Waits sig Unit)
    {hsc : (oM : Memref sig .tc .hbm S1x1024x1024 .f32).view.ref.isScScratch = false}
    {hsrc : (xM : Memref sig .tc .hbm S1x1024x1024 .f32).view.WordExact} {hdst : (oM : Memref sig .tc .hbm S1x1024x1024 .f32).view.WordExact}
    {hsem : DmaTarget.Typed .hbm (.dma recvS) (.remote (Dev.tc n : Thread nD τ) oM (.dma sendS) hsc)}
    {k : PUnit → Prog (TpuEff nD τ sig (Elt F) Λ₀ .tc) α} {Q : α → sProp 𝕄} :
    iprop(cellInv EX (sched σ m) (K (c, 1)) (sendCell c) ∗ cellInv EX (sched σ m) (K (tgt σ c, 2)) (recvCell (tgt σ c))
        ∗ xPts m c ∗ oPts (tgt σ c) fn
        ∗ owes (c : Thread nD τ) (OR σ c) W
        ∗ dutyTok EX (sendCell c) 0 false ∗ reached EX (sendCell c) 0
        ∗ dutyTok EX (recvCell (tgt σ c)) 0 false ∗ reached EX (recvCell (tgt σ c)) 0)
      ⊢ iprop(((cred (tallyAt (sendCell c) () N) ∗ owes (c : Thread nD τ) (OE σ c) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc n : Thread nD τ) oM (.dma sendS) hsc) (.dma recvS) hsrc hdst hsem) k) Q) := by
  subst hn
  unfold xPts oPts
  exact Rounds.wp_send_pointsTo 𝒱₀ EX (sched σ m) (c : Thread nD τ) none (κ₁ := K (c, 1)) (κ₂ := K (tgt σ c, 2))
    (r₁ := 0) (r₂ := 0) (d₁ := false) (d₂ := false) (c' := (tgt σ c : Thread nD τ)) (src := xM) (dst := oM) (sS := .dma sendS) (sem := .dma recvS)
    (hsc := hsc) (hsrc := hsrc) (hdst := hdst) (hsem := hsem) (k := k) (Q := Q) (q := fullShare) (fs := blockOf m c) (fd := fn)
    (by rw [duties_send]; exact Finset.mem_singleton_self _) (by rw [duties_recv]; exact Finset.mem_singleton_self _)
    () () N N_amount (amount_send σ m c false) (amount_recv σ m (tgt σ c) false) (OE σ c) rfl (W := W)
    (send_pays σ m c) (recv_pays σ m c fn)

/-! ## The second meeting -/

/-- What a device brings to it. -/
def exitPre (c : Dev nD) (W : Waits sig Unit) : sProp 𝕄 :=
  iprop((cellInv EX (sched σ m) (K (c, 3)) (exitCell c) ∗ cellInv EX (sched σ m) (K (tgt σ c, 3)) (exitCell (tgt σ c))
      ∗ cellInv EX (sched σ m) (K (src σ c, 3)) (exitCell (src σ c)))
    ∗ (reached EX (exitCell (tgt σ c)) 0 ∗ reached EX (exitCell (src σ c)) 0)
    ∗ atPos EX (exitCell c) 0 ∅ 0
    ∗ (dutyTok EX (exitCell (tgt σ c)) 0 false ∗ dutyTok EX (exitCell (src σ c)) 0 true)
    ∗ cred (OX σ c) ∗ owes (c : Thread nD τ) (OE σ c) W)

/-- Where the peers differ: both are signalled, and `c` waits for both. -/
theorem wp_exit_twice (c : Dev nD) (hT : Twice σ c) (n n' : Dev nD) (hn : n = tgt σ c) (hn' : n' = src σ c) (W : Waits sig Unit)
    (Kt : PUnit → sProp 𝕄) :
    iprop(exitPre σ m K c W ∗ ((semVal (exitCell c) 0 ∗ ∃ W', owes (c : Thread nD τ) 0 W') -∗ Kt ⟨⟩))
      ⊢ wp frame (wpE (defs₀ (F := F)) 𝒱₀ (c : Thread nD τ) none) Set.univ
          (.op (.semSignal (n : Thread nD τ) exitS (1#32 : BitVec 32).toNat) fun _ =>
            .op (.semSignal (n' : Thread nD τ) exitS (1#32 : BitVec 32).toNat) fun _ =>
            .op (.semWait exitS (2#32 : BitVec 32).toNat) fun _ => .ret ⟨⟩) Kt := by
  subst hn hn'
  unfold exitPre OE OX
  rw [if_pos hT, if_pos hT]
  iintro ⟨⟨⟨#HI, #HIt, #HIs⟩, ⟨#Hrt, #Hrs⟩, Hat, ⟨Htt, Hts⟩, Hc, HO⟩, Hk⟩
  iapply (Rounds.wp_signal 𝒱₀ EX (sched σ m) (c : Thread nD τ) none (dst := (tgt σ c : Thread nD τ)) (κ := K (tgt σ c, 3))
      (d := false) (by rw [duties_exit σ m _ ((twice_tgt σ c).mpr hT)]; exact Finset.mem_univ _) ((amount_exit σ m (tgt σ c) false).trans (by decide)) ()
      (tallyAt (exitCell (src σ c)) () 1) rfl)
    $$ [HO Htt]
  · isplitr; · iexact HIt
    isplitl [HO]; · iexact HO
    isplitl [Htt]; · iexact Htt
    isplitr; · rw [payload_exit]; iempintro
    iexact Hrt
  iintro HO
  iapply (Rounds.wp_signal 𝒱₀ EX (sched σ m) (c : Thread nD τ) none (dst := (src σ c : Thread nD τ)) (κ := K (src σ c, 3))
      (d := true) (by rw [duties_exit σ m _ ((twice_src σ c).mpr hT)]; exact Finset.mem_univ _) ((amount_exit σ m (src σ c) true).trans (by decide)) ()
      0 (zero_add _).symm)
    $$ [HO Hts]
  · isplitr; · iexact HIs
    isplitl [HO]; · iexact HO
    isplitl [Hts]; · iexact Hts
    isplitr; · rw [payload_exit]; iempintro
    iexact Hrs
  iintro HO
  iapply (Rounds.wp_wait_rest_token 𝒱₀ EX (sched σ m) (c : Thread nD τ) none (κ := K (c, 3))
      (wpE_semWait_eq 𝒱₀ (c : Thread nD τ) none Set.univ) (Set.mem_univ _) () (O := 0) (W := W) (R := 0) (m := 0) (T := ∅)
      (by rw [expect_exit σ m c hT]; decide)) $$ [Hc HO Hat]
  · isplitr; · iexact HI
    isplitl [Hc]; · iexact Hc
    isplitl [HO]; · iexact HO
    isplitr; · rw [MayWait_zero]; iempintro
    iexact Hat
  iintro ⟨HO, Hat, -, -⟩
  imod (Rounds.cell_close EX (sched σ m) (Set.mem_univ (K (c, 3))) (fun h => h) (R := 0 + 1) (duties_later σ m (exitCell c))) $$ [Hat] with Hz
  · isplitr; · iexact HI
    iexact Hat
  rw [wp_ret]; imodintro
  iapply Hk
  isplitl [Hz]; · iexact Hz
  iexists _; iexact HO

/-- Where they are one device nothing happens, and the exit cell closes as it began. -/
theorem wp_exit_once (c : Dev nD) (hT : ¬ Twice σ c) (W : Waits sig Unit) (Kt : PUnit → sProp 𝕄) :
    iprop(exitPre σ m K c W ∗ ((semVal (exitCell c) 0 ∗ ∃ W', owes (c : Thread nD τ) 0 W') -∗ Kt ⟨⟩))
      ⊢ wp frame (wpE (defs₀ (F := F)) 𝒱₀ (c : Thread nD τ) none) Set.univ (.ret ⟨⟩) Kt := by
  unfold exitPre OE OX
  rw [if_neg hT, if_neg hT]
  iintro ⟨⟨⟨#HI, -, -⟩, -, Hat, -, -, HO⟩, Hk⟩
  imod (Rounds.cell_close EX (sched σ m) (Set.mem_univ (K (c, 3))) (fun h => h) (R := 0) (duties_never σ m c hT)) $$ [Hat] with Hz
  · isplitr; · iexact HI
    iexact Hat
  rw [wp_ret]; imodintro
  iapply Hk
  isplitl [Hz]; · iexact Hz
  iexists _; iexact HO

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost σ m K c ∗ creds σ c ∗ levAts L lv ∗ xPts m c ∗ ∃ f, oPts c f)
    ∗ (dats σ m 0 c).owesAt () t0_0.castSucc
    ∗ (∃ d, stg c cc0_stg0_0 ((dats σ m 0 c).before (0 : Fin 1) t0_0 d)))

def bodyPost (c : Dev nD) : sProp 𝕄 :=
  iprop(Φ₁ σ m c ∗ (dats σ m 0 c).owesAt () t0_0.succ ∗ stg c cc0_stg0_0 (pstg m c))

set_option maxHeartbeats 4000000 in
/-- The body, one rule per effect in program order. -/
theorem sound_body (hm : Table σ m) (c : Dev nD) (Kt : PUnit → sProp 𝕄) :
    iprop(bodyPre σ m K c ∗ (bodyPost σ m c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole main_v1) (Memref.isWhole_whole _) cc0_scratch0 cc0_scratch1 cc0_scoped0) Kt := by
  simp only [cc0_body_eq_skeleton]; unfold cc0_body_skel
  simp only [k0_part1_eq_skeleton]; unfold k0_part1_skel
  simp only [semSignalWord, semWaitWord, smemLoad, smemLoadElt, Prog.lift, Prog.bind_op, Prog.bind_ret, Prog.pure_eq_ret, Prog.bind_assoc, wp_deviceId]
  unfold bodyPre ghost invs marks poss pays creds
  iintro ⟨⟨⟨⟨⟨#HIb, #HIs, #HIr, #HIe, #HIbt, #HIbs, #HIrt, #HIet, #HIes⟩, ⟨#Hmbt, #Hmbs, #Hmrt, #Hms, #Hmet, #Hmes⟩, ⟨HaB, HaS, HaR, HaE⟩,
      ⟨HtBt, HtBs, HtS, HtR, HtEt, HtEs⟩⟩, ⟨HcB, HcR, HcE⟩, #Hlev, Hx, ⟨%f0, Hout⟩⟩, Ho, ⟨%d0, %g0, %hg0, Hp⟩⟩, Hk⟩
  have hp : g0 = pstg m c := by rw [hg0]; unfold Dat.before; rw [if_pos (fetch0_0 t0_0)]; rfl
  subst hp
  unfold Dat.owesAt Pipeline.owesWithin
  icases Ho with ⟨%W, %hW, HO⟩
  rw [show (dats σ m 0 c).owed t0_0.castSucc = O₀ σ c from rfl]
  -- the table's words, and the two assumptions about them
  iapply (wp_load_rect 𝒱₀ (c : Thread nD τ) none Set.univ (m := pM) (r := rY c) (Finset.subset_univ _)) $$ Hp; iintro Hp
  rw [show ((Memref.whole cc0_stg0_0).access (rY c) : View sig .tc _ _ _).read (Elt F) (pstg m c) (Shape.Idx.first (numel1_S1.symm ▸ Nat.one_pos))
    = w4 (σ (yOf c)) from word_own hm c]
  simp only [wp_assume_of _ _ _ _ (d := k0_chk1.dec _ _) (chk1_perm σ c)]
  iapply (wp_load_rect 𝒱₀ (c : Thread nD τ) none Set.univ (m := pM) (r := rJ0) (Finset.subset_univ _)) $$ Hp; iintro Hp
  rw [show ((Memref.whole cc0_stg0_0).access rJ0 : View sig .tc _ _ _).read (Elt F) (pstg m c) (Shape.Idx.first (numel1_S1.symm ▸ Nat.one_pos))
    = w4 (σ 0) from word_0 hm c]
  iapply (wp_load_rect 𝒱₀ (c : Thread nD τ) none Set.univ (m := pM) (r := rJ1) (Finset.subset_univ _)) $$ Hp; iintro Hp
  rw [show ((Memref.whole cc0_stg0_0).access rJ1 : View sig .tc _ _ _).read (Elt F) (pstg m c) (Shape.Idx.first (numel1_S1.symm ▸ Nat.one_pos))
    = w4 (σ 1) from word_1 hm c]
  iapply (wp_load_rect 𝒱₀ (c : Thread nD τ) none Set.univ (m := pM) (r := rJ2) (Finset.subset_univ _)) $$ Hp; iintro Hp
  rw [show ((Memref.whole cc0_stg0_0).access rJ2 : View sig .tc _ _ _).read (Elt F) (pstg m c) (Shape.Idx.first (numel1_S1.symm ▸ Nat.one_pos))
    = w4 (σ 2) from word_2 hm c]
  iapply (wp_load_rect 𝒱₀ (c : Thread nD τ) none Set.univ (m := pM) (r := rJ3) (Finset.subset_univ _)) $$ Hp; iintro Hp
  rw [show ((Memref.whole cc0_stg0_0).access rJ3 : View sig .tc _ _ _).read (Elt F) (pstg m c) (Shape.Idx.first (numel1_S1.symm ▸ Nat.one_pos))
    = w4 (σ 3) from word_3 hm c]
  simp only [wp_assume_of _ _ _ _ (d := k0_chk2.dec _ _ _ _ _ _) (chk2_perm σ c), to_tgt, to_src]
  -- the first signal, to `tgt c`: nothing to hand over
  unfold O₀
  iapply (Rounds.wp_signal 𝒱₀ EX (sched σ m) (c : Thread nD τ) none (dst := (tgt σ c : Thread nD τ)) (κ := K (tgt σ c, 0))
      (d := false) (by rw [duties_bar]; exact Finset.mem_univ _) ((amount_bar σ m (tgt σ c) false).trans (by decide)) () (OB σ c) rfl)
    $$ [HO HtBt]
  · isplitr; · iexact HIbt
    isplitl [HO]; · iexact HO
    isplitl [HtBt]; · iexact HtBt
    isplitr; · rw [payload_bar_false]; iempintro
    iexact Hmbt
  iintro HO
  -- the second, to `src c`, with `c`'s result buffer
  unfold OB
  iapply (Rounds.wp_signal 𝒱₀ EX (sched σ m) (c : Thread nD τ) none (dst := (src σ c : Thread nD τ)) (κ := K (src σ c, 0))
      (d := true) (by rw [duties_bar]; exact Finset.mem_univ _) ((amount_bar σ m (src σ c) true).trans (by decide)) () (OR σ c) rfl)
    $$ [HO HtBs Hout]
  · isplitr; · iexact HIbs
    isplitl [HO]; · iexact HO
    isplitl [HtBs]; · iexact HtBs
    isplitl [Hout]
    · rw [payload_bar_true]; unfold barPay; rw [tgt_src]
      iexists f0; iexact Hout
    · iexact Hmbs
  iintro HO
  -- the wait for both: `tgt c`'s result buffer comes
  iapply (Rounds.wp_wait_rest_token 𝒱₀ EX (sched σ m) (c : Thread nD τ) none (κ := K (c, 0))
      (wpE_semWait_eq 𝒱₀ (c : Thread nD τ) none Set.univ) (Set.mem_univ _) () (O := OR σ c) (W := W) (R := 0) (m := 0) (T := ∅)
      (by rw [expect_bar]; decide)) $$ [HcB HO HaB]
  · isplitr; · iexact HIb
    isplitl [HcB]; · iexact HcB
    isplitl [HO]; · iexact HO
    isplitr; · iapply (mayWait_bar σ c); iexact Hlev
    iexact HaB
  iintro ⟨HO, HaB, -, Hpay⟩
  ihave Hq := (Entails.of_eq (rest_bar σ m c)) $$ Hpay
  unfold barPay
  icases Hq with ⟨-, ⟨%fn, HoutT⟩⟩
  -- the copy
  iapply (wp_copy σ m K c _ (copy_tgt σ c _) fn (insert (SemLoc.reg barS, ()) W)) $$ [Hx HoutT HO HtS HtR]
  · isplitr; · iexact HIs
    isplitr; · iexact HIrt
    isplitl [Hx]; · iexact Hx
    isplitl [HoutT]; · iexact HoutT
    isplitl [HO]; · iexact HO
    isplitl [HtS]; · iexact HtS
    isplitr; · iexact Hms
    isplitl [HtR]; · iexact HtR
    iexact Hmrt
  iintro ⟨HcS, HO⟩
  -- its block read: the wait on the send cell
  iapply (Rounds.wp_wait_rest_token 𝒱₀ EX (sched σ m) (c : Thread nD τ) none (κ := K (c, 1))
      (wpE_waitDma2_eq 𝒱₀ (c : Thread nD τ) none Set.univ) (Set.mem_univ _) () (O := OE σ c) (W := insert (SemLoc.reg barS, ()) W) (R := 0) (m := 0) (T := ∅)
      (by rw [Nat.zero_add, expect_send, N_eq'])) $$ [HcS HO HaS]
  · isplitr; · iexact HIs
    isplitl [HcS]; · rw [← N_eq']; iexact HcS
    isplitl [HO]; · iexact HO
    isplitr; · iapply (mayWait_send σ c); iexact Hlev
    iexact HaS
  iintro ⟨HO, HaS, -, Hpay⟩
  ihave Hx := (Entails.of_eq (rest_send σ m c)) $$ Hpay
  -- the block from `src c` landed: the wait on the receive cell
  iapply (Rounds.wp_wait_rest_token 𝒱₀ EX (sched σ m) (c : Thread nD τ) none (κ := K (c, 2))
      (wpE_waitDma2_eq 𝒱₀ (c : Thread nD τ) none Set.univ) (Set.mem_univ _) () (O := OE σ c)
      (W := insert (SemLoc.dma sendS, ()) (insert (SemLoc.reg barS, ()) W)) (R := 0) (m := 0) (T := ∅)
      (by rw [Nat.zero_add, expect_recv, N_eq])) $$ [HcR HO HaR]
  · isplitr; · iexact HIr
    isplitl [HcR]; · rw [← N_eq]; iexact HcR
    isplitl [HO]; · iexact HO
    isplitr; · iapply (mayWait_recv σ c); iexact Hlev
    iexact HaR
  iintro ⟨HO, HaR, -, Hpay⟩
  ihave Hout := (Entails.of_eq (rest_recv σ m c)) $$ Hpay
  -- these three cells close
  imod (Rounds.cell_close EX (sched σ m) (Set.mem_univ (K (c, 1))) (fun h => h) (R := 0 + 1) (duties_later σ m (sendCell c))) $$ [HaS] with HzS
  · isplitr; · iexact HIs
    iexact HaS
  imod (Rounds.cell_close EX (sched σ m) (Set.mem_univ (K (c, 2))) (fun h => h) (R := 0 + 1) (duties_later σ m (recvCell c))) $$ [HaR] with HzR
  · isplitr; · iexact HIr
    iexact HaR
  imod (Rounds.cell_close EX (sched σ m) (Set.mem_univ (K (c, 0))) (fun h => h) (R := 0 + 1) (duties_later σ m (barCell c))) $$ [HaB] with HzB
  · isplitr; · iexact HIb
    iexact HaB
  -- what is left, once the exit cell is closed
  ihave Hfin : iprop((semVal (exitCell c) 0 ∗ ∃ W', owes (c : Thread nD τ) 0 W') -∗ Kt ⟨⟩) $$ [Hk Hx Hout HzS HzR HzB Hp]
  · iintro ⟨HzE, ⟨%W', HO⟩⟩
    iapply Hk
    unfold bodyPost Φ₁ Dat.owesAt Pipeline.owesWithin
    rw [show (dats σ m 0 c).owed t0_0.succ = 0 from rfl]
    isplitl [Hx Hout HzS HzR HzB HzE]
    · isplitl [Hx]; · iexact Hx
      isplitl [Hout]; · iexact Hout
      isplitl [HzB]; · iexact HzB
      isplitl [HzE]; · iexact HzE
      isplitl [HzS] <;> iassumption
    isplitl [HO]
    · iexists W'
      isplitr; · ipureintro; exact fun _ _ => Or.inl trivial
      iexact HO
    iexists _; isplitr; · (ipureintro; rfl)
    iexact Hp
  -- the second meeting
  ihave He : exitPre σ m K c (insert (SemLoc.dma recvS, ()) (insert (SemLoc.dma sendS, ()) (insert (SemLoc.reg barS, ()) W))) $$ [HaE HtEt HtEs HcE HO]
  · unfold exitPre
    isplitr
    · isplitr; · iexact HIe
      isplitr; · iexact HIet
      iexact HIes
    isplitr
    · isplitr; · iexact Hmet
      iexact Hmes
    isplitl [HaE]; · iexact HaE
    isplitl [HtEt HtEs]; · isplitl [HtEt] <;> iassumption
    isplitl [HcE] <;> iassumption
  by_cases hT : Twice σ c
  · rw [dif_pos ((cond1_twice σ c).mpr hT)]
    simp only [Prog.bind_op, Prog.bind_ret]
    iapply (wp_exit_twice σ m K c hT _ _ (exit_tgt σ c _) (exit_src σ c _)
      (insert (SemLoc.dma recvS, ()) (insert (SemLoc.dma sendS, ()) (insert (SemLoc.reg barS, ()) W))) Kt)
    isplitl [He] <;> iassumption
  · rw [dif_neg fun h => hT ((cond1_twice σ c).mp h)]
    simp only [Prog.bind_op, Prog.bind_ret]
    iapply (wp_exit_once σ m K c hT (insert (SemLoc.dma recvS, ()) (insert (SemLoc.dma sendS, ()) (insert (SemLoc.reg barS, ()) W))) Kt)
    isplitl [He] <;> iassumption

def bodyPre' (c : Dev nD) : sProp 𝕄 :=
  iprop(start σ m c ∗ (dats σ m 0 c).owesAt () t0_0.castSucc
    ∗ (∃ d, stg c cc0_stg0_0 ((dats σ m 0 c).before (0 : Fin 1) t0_0 d)))

set_option maxRecDepth 4000 in
/-- The pipeline's body obligation on core `c`. -/
theorem body_obligation (hm : Table σ m) (c : Dev nD) : BodyObligation (dats (F := F) σ m 0 c) (defs₀ (F := F)) 𝒱₀ () Set.univ := fun t => by
  rw [fin_N0 t]
  rw [bigSep_W0, bigSep_W0]
  simp only [owns_whole_eq]
  show bodyPre' σ m c ⊢ wp frame (wpE (defs₀ (F := F)) 𝒱₀ c none) Set.univ
    (cc0_body (Memref.whole main_arg0) (Memref.isWhole_whole _) (Memref.whole cc0_stg0_0) (Memref.isWhole_whole _)
            (Memref.whole main_v1) (Memref.isWhole_whole _) cc0_scratch0 cc0_scratch1 cc0_scoped0) (fun _ => bodyPost σ m c)
  unfold bodyPre' start
  iintro ⟨⟨⟨%K, Hg⟩, Hrest⟩, Ho, Hp⟩
  iapply (sound_body σ m K hm c fun _ => bodyPost σ m c)
  unfold bodyPre
  isplitr []
  · isplitl [Hg Hrest]
    · isplitl [Hg]; · iexact Hg
      iexact Hrest
    isplitl [Ho] <;> iassumption
  · iintro H; iexact H

end Cert.Shuffle

end
-- ==== Proof.Launch.lean ====
/-
  The launch: the cells' invariants allocated for all devices at once, the duty tokens dealt to the devices that pay them,
  the launch credit read off what the devices owe; and the run of @main.
-/
module

public import proofs.«01_k».proof.Proof.Body
public import Idealize.ShloMosaic.Lib.Pipeline.CollectiveSegs
public import Idealize.ShloMosaic.Lib.Quiescent

@[expose] public section

noncomputable section

namespace Cert.Shuffle

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Equiv.Perm (Fin 4))
variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats σ m 0 c).share w = fullShare := by unfold Dat.share; split <;> rfl

theorem kcell_inj : Function.Injective (kcell : Dev nD × Fin 4 → GSem nD τ sig) := by
  rintro ⟨c, k⟩ ⟨c', k'⟩ h
  have h1 : c = c' := congrArg (fun g : GSem nD τ sig => g.1.1) h
  have h2 : k = k' := csem_inj (congrArg Prod.snd h)
  subst h1 h2; rfl
def allCells : Finset (GSem nD τ sig) := Finset.univ.map ⟨kcell, kcell_inj⟩

/-- The six duties of one device's own cells, as (cell, name); -/
abbrev dutyAt : Fin 6 → Fin 4 × Bool := fun | 0 => (0, false) | 1 => (0, true) | 2 => (1, false) | 3 => (2, false) | 4 => (3, false) | 5 => (3, true)
theorem dutyAt_inj : Function.Injective dutyAt := by decide
/-- the tokens minted. -/
abbrev tokOf (cj : Dev nD × Fin 6) : GSem nD τ sig × ℕ × Bool := (kcell (cj.1, (dutyAt cj.2).1), 0, (dutyAt cj.2).2)
theorem tokOf_inj : Function.Injective (tokOf : Dev nD × Fin 6 → GSem nD τ sig × ℕ × Bool) := by
  rintro ⟨c, j⟩ ⟨c', j'⟩ h
  have h1 := kcell_inj (congrArg Prod.fst h)
  have h2 : (dutyAt j).2 = (dutyAt j').2 := congrArg (fun x : GSem nD τ sig × ℕ × Bool => x.2.2) h
  have h3 : j = j' := dutyAt_inj (Prod.ext (congrArg Prod.snd h1) h2)
  have h4 : c = c' := congrArg Prod.fst h1
  subst h3 h4; rfl
def allToks : Finset (GSem nD τ sig × ℕ × Bool) := Finset.univ.map ⟨tokOf, tokOf_inj⟩

def u₀ : UU := (initOf (Pipeline.cells cfgs cellOf_inj) (Pipeline.launchToks cfgs cellOf_inj), initOf allCells allToks)

/-- The tokens of device `c`'s own cells. -/
def toks (c : Dev nD) : sProp 𝕄 :=
  iprop(dutyTok EX (barCell c) 0 false ∗ dutyTok EX (barCell c) 0 true ∗ dutyTok EX (sendCell c) 0 false ∗ dutyTok EX (recvCell c) 0 false
    ∗ dutyTok EX (exitCell c) 0 false ∗ dutyTok EX (exitCell c) 0 true)

/-- What the launch deals device `c`. -/
def G (c : Dev nD) : sProp 𝕄 :=
  iprop((bigSep Finset.univ fun k : Fin 4 => roundState EX (sched σ m) (kcell (c, k)) 0)
    ∗ (bigSep Finset.univ fun k : Fin 4 => iprop(atPos EX (kcell (c, k)) 0 ∅ 0 ∗ reached EX (kcell (c, k)) 0)) ∗ toks c)
/-- What the global step makes of it. -/
def G' (c : Dev nD) : sProp 𝕄 := iprop(∃ K, ghost σ m K c)

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem fund_all : BI.own (EX (initOf allCells allToks)) ⊢ (|==> bigSep Finset.univ (G σ m) : sProp 𝕄) := by
  have hX (Φ : GSem nD τ sig → sProp 𝕄) :
      bigSep allCells Φ = bigSep Finset.univ fun c : Dev nD => bigSep Finset.univ fun k : Fin 4 => Φ (kcell (c, k)) := by
    unfold allCells; rw [bigSep_map, bigSep_univ_prod]; rfl
  have hT : bigSep allToks (fun x => (dutyTok EX x.1 x.2.1 x.2.2 : sProp 𝕄)) = bigSep Finset.univ fun c : Dev nD => toks c := by
    unfold allToks; rw [bigSep_map, bigSep_univ_prod]
    exact bigSep_congr fun c _ => by unfold toks; rw [bigSep_six]; rfl
  iintro HX
  imod (Rounds.fund EX (sched σ m) allCells allToks) $$ HX with ⟨Hst, Hr, Hat, Htok⟩
  imodintro
  ihave Hst' := (Entails.of_eq (hX fun g => roundState EX (sched σ m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The scoped semaphores are the kernel's own three; -/
theorem ownSems0_eq (c : Dev nD) : (Pipeline.ownSems0 (Ix := Unit) (Name := ℕ) (U := UU) (Lvl := ℕ) (Val := Elt F) (τ := τ) osem c : sProp 𝕄)
    = iprop(semVal (exitCell c) 0 ∗ semVal (sendCell c) 0 ∗ semVal (recvCell c) 0) := by
  rw [Pipeline.ownSems0_eq_of_list c osem [0, 1, 2] (by decide) (by decide)]; rfl
omit [FloatOps F] in
/-- the barrier is the one unscoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_four]
  iintro ⟨⟨HE, HS, HR⟩, HB⟩
  isplitl [HB]; · iexact HB
  isplitl [HS]; · iexact HS
  isplitl [HR] <;> iassumption

/-- One device's cells with their invariants allocated. -/
def opened (c : Dev nD) : sProp 𝕄 :=
  iprop((bigSep Finset.univ fun k : Fin 4 => iprop(∃ κ : ℕ, cellInv EX (sched σ m) κ (kcell (c, k))))
    ∗ (bigSep Finset.univ fun k : Fin 4 => iprop(atPos EX (kcell (c, k)) 0 ∅ 0 ∗ reached EX (kcell (c, k)) 0)) ∗ toks c)

omit [FloatOps F] in
theorem open_cells (c : Dev nD) :
    iprop(Pipeline.ownSems0 (Ix := Unit) (Name := ℕ) (U := UU) (Lvl := ℕ) (Val := Elt F) (τ := τ) osem c ∗ unscopedSems0 c ∗ G σ m c)
      ⊢ |={Set.univ}=> opened σ m c := by
  have halloc : iprop((bigSep Finset.univ fun k : Fin 4 => semVal (kcell (c, k)) 0)
        ∗ bigSep Finset.univ fun k : Fin 4 => roundState EX (sched σ m) (kcell (c, k)) 0)
      ⊢ (|={Set.univ}=> bigSep Finset.univ fun k : Fin 4 => iprop(∃ κ : ℕ, cellInv EX (sched σ m) κ (kcell (c, k))) : sProp 𝕄) := by
    rw [← bigSep_sep']
    exact (bigSep_mono fun k _ => (Rounds.body_intro EX (sched σ m) (kcell (c, k))).trans inv_alloc).trans (bigSep_fupd _ _)
  unfold G opened
  iintro ⟨Hos, Hus, Hst, Hat, Htok⟩
  ihave Hv := (sems0_eq (F := F) c) $$ [Hos Hus]
  · isplitl [Hos] <;> iassumption
  imod halloc $$ [Hv Hst] with Hinv
  · isplitl [Hv] <;> iassumption
  imodintro
  isplitl [Hinv]; · iexact Hinv
  isplitl [Hat] <;> iassumption

/-! ## Dealing -/

/-- What every device may know: all cells' invariants, and that round 0 of each is reached. -/
def records (K : Dev nD × Fin 4 → ℕ) : sProp 𝕄 :=
  iprop((bigSep Finset.univ fun ck : Dev nD × Fin 4 => cellInv EX (sched σ m) (K ck) (kcell ck))
    ∗ bigSep Finset.univ fun ck : Dev nD × Fin 4 => reached EX (kcell ck) 0)

instance records_persistent (K : Dev nD × Fin 4 → ℕ) : BI.Persistent (records σ m K) := by unfold records; infer_instance

omit [FloatOps F] in
theorem inv_at (K : Dev nD × Fin 4 → ℕ) (ck : Dev nD × Fin 4) :
    (bigSep Finset.univ fun ck : Dev nD × Fin 4 => (cellInv EX (sched σ m) (K ck) (kcell ck) : sProp 𝕄)) ⊢ cellInv EX (sched σ m) (K ck) (kcell ck) :=
  bigSep_elim (Finset.mem_univ ck)
omit [FloatOps F] in
theorem mark_at (ck : Dev nD × Fin 4) :
    (bigSep Finset.univ fun ck : Dev nD × Fin 4 => (reached EX (kcell ck) 0 : sProp 𝕄)) ⊢ reached EX (kcell ck) 0 :=
  bigSep_elim (Finset.mem_univ ck)

omit [FloatOps F] in
theorem ghost_intro (K : Dev nD × Fin 4 → ℕ) (c : Dev nD) : iprop(records σ m K ∗ (poss c ∗ pays σ c)) ⊢ G' σ m c := by
  unfold records G' ghost invs marks
  iintro ⟨⟨#HI, #HR⟩, Hpos, Hpay⟩
  iexists K
  isplitr
  · isplitr; · iapply (inv_at σ m K (c, 0)); iexact HI
    isplitr; · iapply (inv_at σ m K (c, 1)); iexact HI
    isplitr; · iapply (inv_at σ m K (c, 2)); iexact HI
    isplitr; · iapply (inv_at σ m K (c, 3)); iexact HI
    isplitr; · iapply (inv_at σ m K (tgt σ c, 0)); iexact HI
    isplitr; · iapply (inv_at σ m K (src σ c, 0)); iexact HI
    isplitr; · iapply (inv_at σ m K (tgt σ c, 2)); iexact HI
    isplitr; · iapply (inv_at σ m K (tgt σ c, 3)); iexact HI
    iapply (inv_at σ m K (src σ c, 3)); iexact HI
  isplitr
  · isplitr; · iapply (mark_at (F := F) (tgt σ c, 0)); iexact HR
    isplitr; · iapply (mark_at (F := F) (src σ c, 0)); iexact HR
    isplitr; · iapply (mark_at (F := F) (tgt σ c, 2)); iexact HR
    isplitr; · iapply (mark_at (F := F) (c, 1)); iexact HR
    isplitr; · iapply (mark_at (F := F) (tgt σ c, 3)); iexact HR
    iapply (mark_at (F := F) (src σ c, 3)); iexact HR
  isplitl [Hpos] <;> iassumption

omit [FloatOps F] in
/-- Every token goes to the device that pays it: a barrier's and an exit's `false` tokens and the receive token to the
    device that sends there, the `true` tokens to the device that is sent to. -/
theorem deal_toks : (bigSep Finset.univ fun c : Dev nD => (toks c : sProp 𝕄)) ⊢ bigSep Finset.univ fun c : Dev nD => pays σ c := by
  unfold toks pays
  simp only [bigSep_sep']
  rw [bigSep_univ_equiv (line σ) (fun c : Dev nD => (dutyTok EX (barCell c) 0 false : sProp 𝕄)),
    bigSep_univ_equiv (line σ).symm (fun c : Dev nD => (dutyTok EX (barCell c) 0 true : sProp 𝕄)),
    bigSep_univ_equiv (line σ) (fun c : Dev nD => (dutyTok EX (recvCell c) 0 false : sProp 𝕄)),
    bigSep_univ_equiv (line σ) (fun c : Dev nD => (dutyTok EX (exitCell c) 0 false : sProp 𝕄)),
    bigSep_univ_equiv (line σ).symm (fun c : Dev nD => (dutyTok EX (exitCell c) 0 true : sProp 𝕄))]
  exact BI.Entails.refl _

omit [FloatOps F] in
theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup : (bigSep Finset.univ fun c : Dev nD => (opened σ m c : sProp 𝕄)) ⊢ bigSep Finset.univ (G' σ m) := by
  unfold opened
  rw [bigSep_sep', bigSep_sep', ← bigSep_univ_prod (fun ck : Dev nD × Fin 4 => iprop(∃ κ : ℕ, cellInv EX (sched σ m) κ (kcell ck))),
    bigSep_congr (s := Finset.univ) (fun (c : Dev nD) _ => bigSep_sep' Finset.univ (fun k : Fin 4 => (atPos EX (kcell (c, k)) 0 ∅ 0 : sProp 𝕄)) (fun k => reached EX (kcell (c, k)) 0)),
    bigSep_sep', ← bigSep_univ_prod (fun ck : Dev nD × Fin 4 => (reached EX (kcell ck) 0 : sProp 𝕄))]
  iintro ⟨HI, ⟨Hat, #HR⟩, Htok⟩
  ihave HK := (BI.bigSep_exists_pi Finset.univ (fun (ck : Dev nD × Fin 4) (κ : ℕ) => (cellInv EX (sched σ m) κ (kcell ck) : sProp 𝕄))) $$ HI
  icases HK with ⟨%K, #HI⟩
  ihave Htk := (deal_toks (F := F) σ) $$ Htok
  iapply (bigSep_knowing (R := records σ m K) fun c _ => ghost_intro σ m K c)
  isplitr
  · unfold records; isplitl; · iexact HI
    iexact HR
  · iapply ((Entails.of_eq (bigSep_sep' Finset.univ (fun c : Dev nD => bigSep Finset.univ fun k : Fin 4 => (atPos EX (kcell (c, k)) 0 ∅ 0 : sProp 𝕄)) (pays σ)).symm).trans
      (bigSep_mono fun c _ => show _ ⊢ iprop(poss c ∗ pays σ c) from Entails.of_eq (by unfold poss; rw [bigSep_four])))
    isplitl [Hat] <;> iassumption

omit [FloatOps F] in
/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G σ m c) : sProp 𝕄)
    ⊢ |={Set.univ}=> bigSep Finset.univ (G' σ m) :=
  ((bigSep_mono fun c _ => open_cells σ m c).trans (bigSep_fupd _ _)).trans (BI.fupd_mono (regroup σ m))

/-! ## The launch credit -/

/-- A unit count `n` on device `d'`'s cell of `s` is one on `c`'s exactly if the devices are one. -/
theorem tally_own (s : SemLoc sig) (d' c : Dev nD) (n : ℕ) :
    (tallyAt ((d' : Thread nD τ), s) () n : CellTallies nD τ sig Unit) ((c : Thread nD τ), s) () = if d' = c then n else 0 := by
  rw [tallyAt_apply]
  by_cases h : d' = c
  · subst h; rw [if_pos ⟨rfl, rfl⟩, if_pos rfl]
  · rw [if_neg (fun ⟨h1, _⟩ => h (congrArg (fun g : GSem nD τ sig => g.1.1) h1).symm), if_neg h]
/-- On a cell of another semaphore it is none. -/
theorem tally_other (s s' : SemLoc sig) (h : s' ≠ s) (d' c : Dev nD) (n : ℕ) :
    (tallyAt ((d' : Thread nD τ), s) () n : CellTallies nD τ sig Unit) ((c : Thread nD τ), s') () = 0 := by
  rw [tallyAt_apply]; exact if_neg fun ⟨h1, _⟩ => h (congrArg Prod.snd h1)

theorem tgt_eq_iff (d c : Dev nD) : tgt σ d = c ↔ d = src σ c := ⟨fun h => by rw [← h, src_tgt], fun h => by rw [h, tgt_src]⟩
theorem src_eq_iff (d c : Dev nD) : src σ d = c ↔ d = tgt σ c := ⟨fun h => by rw [← h, tgt_src], fun h => by rw [h, src_tgt]⟩

/-- The exit units device `d` owes touch no cell of another semaphore. -/
theorem OE_other (s : SemLoc sig) (h : s ≠ .reg exitS) (d c : Dev nD) : OE σ d ((c : Thread nD τ), s) () = 0 := by
  unfold OE
  split
  · rw [Pi.add_apply, Finsupp.add_apply, tally_other _ _ h, tally_other _ _ h]
  · rfl
theorem OE_exit (d c : Dev nD) :
    OE σ d (exitCell c) () = if Twice σ c then (if d = tgt σ c then 1 else 0) + (if d = src σ c then 1 else 0) else 0 := by
  unfold OE
  by_cases hd : Twice σ d
  · rw [if_pos hd, Pi.add_apply, Finsupp.add_apply, tally_own, tally_own]
    simp only [tgt_eq_iff, src_eq_iff]
    by_cases hc : Twice σ c
    · rw [if_pos hc]
    · rw [if_neg hc, if_neg (fun h => hc (by rw [← twice_tgt, ← h]; exact hd)), if_neg (fun h => hc (by rw [← twice_src, ← h]; exact hd))]
  · rw [if_neg hd]
    by_cases hc : Twice σ c
    · rw [if_pos hc, if_neg (fun h => hd (by rw [h, twice_tgt]; exact hc)), if_neg (fun h => hd (by rw [h, twice_src]; exact hc))]; rfl
    · rw [if_neg hc]; rfl

theorem owed_bar (d c : Dev nD) : O₀ σ d (barCell c) () = (if d = tgt σ c then 1 else 0) + (if d = src σ c then 1 else 0) := by
  unfold O₀ OB OR
  rw [Pi.add_apply, Finsupp.add_apply, Pi.add_apply, Finsupp.add_apply, Pi.add_apply, Finsupp.add_apply, OE_other σ _ exit_ne_bar.symm,
    tally_other _ _ recv_ne_bar.symm, tally_own, tally_own]
  simp only [tgt_eq_iff, src_eq_iff, Nat.zero_add]
theorem owed_recv (d c : Dev nD) : O₀ σ d (recvCell c) () = if d = src σ c then N else 0 := by
  unfold O₀ OB OR
  rw [Pi.add_apply, Finsupp.add_apply, Pi.add_apply, Finsupp.add_apply, Pi.add_apply, Finsupp.add_apply, OE_other σ _ recv_ne_exit,
    tally_own, tally_other _ _ recv_ne_bar, tally_other _ _ recv_ne_bar]
  simp only [tgt_eq_iff, Nat.zero_add, Nat.add_zero]
theorem owed_exit (d c : Dev nD) : O₀ σ d (exitCell c) () = if Twice σ c then (if d = tgt σ c then 1 else 0) + (if d = src σ c then 1 else 0) else 0 := by
  unfold O₀ OB OR
  rw [Pi.add_apply, Finsupp.add_apply, Pi.add_apply, Finsupp.add_apply, Pi.add_apply, Finsupp.add_apply, OE_exit,
    tally_other _ _ recv_ne_exit.symm, tally_other _ _ exit_ne_bar, tally_other _ _ exit_ne_bar]
  simp only [Nat.add_zero]

theorem sum_pair (a b : Dev nD) : ∑ d : Dev nD, ((if d = a then 1 else 0) + (if d = b then 1 else 0)) = 2 := by
  rw [Finset.sum_add_distrib, Finset.sum_ite_eq' Finset.univ a fun _ => 1, Finset.sum_ite_eq' Finset.univ b fun _ => 1,
    if_pos (Finset.mem_univ _), if_pos (Finset.mem_univ _)]

theorem launch_bar (c : Dev nD) :
    tallyOn (barCell c) (launchCredit (Pipeline.owing (O₀ σ)) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar σ d c, sum_pair]
theorem launch_recv (c : Dev nD) :
    tallyOn (recvCell c) (launchCredit (Pipeline.owing (O₀ σ)) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv σ d c, Finset.sum_ite_eq' Finset.univ (src σ c) fun _ => N,
    if_pos (Finset.mem_univ _)]
theorem launch_exit (c : Dev nD) :
    tallyOn (exitCell c) (launchCredit (Pipeline.owing (O₀ σ)) 0 (exitCell c)) = (OX σ c : CellTallies nD τ sig Unit) := by
  unfold OX
  by_cases hc : Twice σ c
  · rw [if_pos hc]
    unfold tallyAt; refine congrArg _ (Finsupp.ext fun u => ?_); cases u
    rw [Pipeline.launchCredit_owing, Finsupp.single_eq_same, Finset.sum_congr rfl fun d _ => owed_exit σ d c]
    simp only [if_pos hc]
    exact sum_pair _ _
  · rw [if_neg hc]
    have : launchCredit (Pipeline.owing (O₀ σ)) 0 (exitCell c) = 0 := Finsupp.ext fun u => by
      cases u
      rw [Pipeline.launchCredit_owing, Finset.sum_congr rfl fun d _ => owed_exit σ d c]
      simp only [if_neg hc, Finset.sum_const_zero, Finsupp.zero_apply]
    rw [this]
    funext g
    unfold tallyOn
    by_cases hg : g = exitCell c
    · subst hg; simp
    · simp [hg]

omit [FloatOps F] in
theorem creds_intro (c : Dev nD) : (Pipeline.launchCred (O₀ σ) c : sProp 𝕄) ⊢ creds σ c := by
  unfold Pipeline.launchCred creds
  have h2 : SemLoc.dma recvS ∈ (Finset.univ : Finset (SemLoc sig)).erase (.reg barS) := Finset.mem_erase.mpr ⟨recv_ne_bar, Finset.mem_univ _⟩
  have h3 : SemLoc.reg exitS ∈ ((Finset.univ : Finset (SemLoc sig)).erase (.reg barS)).erase (.dma recvS) :=
    Finset.mem_erase.mpr ⟨recv_ne_exit.symm, Finset.mem_erase.mpr ⟨exit_ne_bar, Finset.mem_univ _⟩⟩
  rw [bigSep_univ_at _ (SemLoc.reg barS), launch_bar]
  refine sep_mono_right ?_
  rw [← Finset.insert_erase h2, bigSep_insert (Finset.notMem_erase _ _), launch_recv]
  refine sep_mono_right ?_
  rw [← launch_exit]
  exact bigSep_elim h3

/-! ## The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' σ m c)
      ⊢ |={Set.univ}=> iprop(start σ m c ∗ emp) := by
  rw [Pipeline.unscopedRestP_none, unscopedRest0_eq]
  iintro ⟨⟨Hx, Ho⟩, Hlev, Hcr, -, HG⟩
  ihave Hc := (creds_intro (F := F) σ c) $$ Hcr
  imodintro
  unfold start G'
  isplitl
  · isplitl [HG]; · iexact HG
    isplitl [Hc]; · iexact Hc
    isplitl [Hlev]; · iexact Hlev
    isplitl [Hx]; · rw [xPts_eq]; iexact Hx
    iexists (m ((c : Thread nD τ).loc main_v1)); rw [oPts_eq]; iexact Ho
  · iempintro

theorem phi_in (c : Dev nD) :
    iprop(start σ m c ∗ Pipeline.prefHeld Pipeline.Prefetch.none c (fun _ => fullShare.right) (fun k => k.elim0) ∗ Pipeline.scopedRest cfg0.spec c)
      ⊢ (dats σ m 0 c).Φ 0 := by
  rw [show (dats σ m 0 c).Φ 0 = start σ m c from rfl]
  iintro ⟨Hs, -, -⟩
  iexact Hs

/-- What a device holds in the end. -/
def Y (c : Dev nD) : sProp 𝕄 :=
  iprop(unscopedSems0 c ∗ (((c : Thread nD τ).loc main_arg0) ↦{fullShare} blockOf m c) ∗ (((c : Thread nD τ).loc main_v1) ↦{fullShare} landed σ m c))

theorem phi_out (c : Dev nD) :
    (dats σ m 0 c).Φ (Fin.last cfg0.N) ⊢ iprop(Y σ m c ∗ Pipeline.ownSems0 osem c ∗ Pipeline.scopedRest cfg0.spec c) := by
  rw [show (dats σ m 0 c).Φ (Fin.last cfg0.N) = Φ₁ σ m c from rfl, scopedRest0_eq, ownSems0_eq]
  unfold Φ₁ Y
  rw [unscopedSems0_eq, xPts_eq, oPts_eq]
  iintro ⟨Hx, Ho, HzB, HzE, HzS, HzR⟩
  isplitl [HzB Hx Ho]
  · isplitl [HzB]; · iexact HzB
    isplitl [Hx] <;> iassumption
  isplitl [HzE HzS HzR]
  · isplitl [HzE]; · iexact HzE
    isplitl [HzS] <;> iassumption
  iempintro

theorem waits (c : Dev nD) : (levAts L lv : sProp 𝕄) ⊢ Pipeline.cellsWaits cfgs (dats σ m) () 0 c :=
  Pipeline.cellsWaits_intro cfgs (dats σ m) () 0 c fun w s t =>
    mayWait_low σ c _ (by fin_cases w <;> fin_cases s <;> decide) _ (by
      rcases t with ⟨_ | _, ht⟩
      · exact Or.inl rfl
      · exact Or.inr rfl)

/-- What the final memory says of device `c`: its barrier counter is zero, its block of `x` is as it was, its result is
    `src c`'s block. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = blockOf m c ∧ s.mem ((c : Thread nD τ).loc main_v1) = landed σ m c

theorem read_end (c : Dev nD) (s' : Phys nD τ sig (Elt F)) :
    iprop(Y σ m c ∗ emp ∗ SI s') ⊢ (|={Set.univ}=> iprop(⌜QY σ m c s'.mem⌝ ∗ SI s') : sProp 𝕄) := by
  unfold Y
  iintro ⟨⟨Hu, Hx, Ho⟩, -, HSI⟩
  icombine HSI Hx gives %hx
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro; exact ⟨hu, Buf.eq_of_forall_mem_univ hx, Buf.eq_of_forall_mem_univ ho⟩
  iexact HSI

/-! ## The run -/

def QC : PUnit × MemSt nD τ sig (Elt F) → Prop := fun r => ∀ c : Dev nD,
  r.2.mem ((c : Thread nD τ).loc main_v1) = landed σ m c ∧ r.2.mem ((c : Thread nD τ).loc main_arg0) = m ((c : Thread nD τ).loc main_arg0)
    ∧ r.2.mem ((c : Thread nD τ).loc main_arg1) = m ((c : Thread nD τ).loc main_arg1)

set_option maxRecDepth 8000 in
/-- On the mesh of 32 devices, for any float values, from any memory with zero counters in which every device's table is
    `σ`: every weakly fair execution of @main ends, with device `c`'s result the block of `src c`, the arguments unchanged
    and every semaphore counter zero. -/
theorem run_main (hm : Table σ m) :
    θ_run defs (onTc (τ := τ) (main (F := F))) ⟨m, fun _ => 0, ρ⟩ (fun r => QC σ m r ∧ r.2.sem = fun _ => 0) :=
  Pipeline.θ_run_region_owing_glob_pf (fun p => (cfgs p).toPCfg) (fun p => (cfgs p).toPCfg_adm) (dats σ m) () cellOf_inj (0 : Fin 1)
    winFacts0.to₀ ownSemFacts (Pipeline.PreFacts.none _) EP defs₀ 𝒱₀ m ρ main
    (hmain := fun _ => rfl)
    (hbody := fun c => (body_obligation σ m hm c).loose) (hne := fun w => by fin_cases w <;> exact Nat.succ_pos _) (harr := arr_whole0) (hstage := stage_whole0) (hshare := share_eq σ m)
    (hdistinct := winFacts0.arr_inj)
    (O₀ := O₀ σ) (howed₀ := fun _ => rfl) (howedN := fun _ => rfl)
    (L := L) (lv := lv) (hL := L_of_ne) (hwaits := waits σ m)
    (G := G σ m) (G' := G' σ m) (u₀ := u₀)
    (hu₀ := by
      unfold u₀
      iintro Hu
      ihave H := (ownU_pair _ _) $$ Hu
      icases H with ⟨HP, HX⟩
      imod (fund_all σ m) $$ HX with HG
      imodintro
      isplitl [HP] <;> iassumption)
    (hglob := glob σ m)
    (hA := fun _ _ => rfl) (hpf := fun _ k => k.elim0)
    (X := start σ m) (Y := Y σ m) (Z := fun _ => iprop(emp))
    (hX := start_intro σ m ρ) (hin := phi_in σ m) (hout := phi_out σ m)
    (QY := QY σ m) (hY := read_end σ m)
    (hQ := fun _ h hs => ⟨fun c => ⟨(h c).2.2.2.2, (h c).2.2.2.1,
      ((h c).1 (0 : Fin 1)).trans ((dats (F := F) σ m 0 c).arrAt_in (0 : Fin 1) rfl _)⟩, sem_eq_zero hs fun c => (h c).2.2.1⟩)

end Cert.Shuffle

end
-- ==== Proof.Ref.lean ====
/-
  The reference `x[argsort(pi)]`: its run, for any float values, and what it computes when `pi` is a permutation `σ`: row
  `j` of the result is row `σ⁻¹ j` of `x`. Sorting `σ` visits its places in the order `σ⁻¹ 0, …, σ⁻¹ 3`; the gather then
  reads these rows.
-/
module

public import proofs.«01_k».proof.Proof.Gen.ReferenceIdeal
public import proofs.«01_k».proof.Proof.Peers
public import Idealize.ShloMosaic.Lib.StableHlo.Run
public import Idealize.ShloMosaic.Lib.SortNet.HostSort
public import Idealize.ShloMosaic.Lib.Quiescent

@[expose] public section

noncomputable section

namespace Cert.RefRun

open Cert.ReferenceIdeal Cert.ReferenceIdeal.Gen
open Idealize.ShloMosaic Idealize.ShloMosaic.TcCoe Idealize.ShloMosaic.StableHlo Idealize.SL.Sem

variable {F : FTy → Type} [FloatOps F]

/-! ## What it computes -/

/-- The places of `pi` in sorted order. -/
def order (pi : IVec S4 32) : IVec S4 32 := (Host.sort2 S4 0 comparator_i32_i32_d0 pi (iotaInDim S4 32 0)).2
/-- The gather's start indices: a negative place counted from the end (there is none), as a column. -/
def starts (o : IVec S4 32) : IVec S4x1 32 :=
  broadcastInDim S4x1 ![0] bcast_S4_S4x1_0
    (select (cmpi .slt o (broadcastInDim S4 ![] bcast_S_S4 (constantI S_ 32 0#32))) (addi o (broadcastInDim S4 ![] bcast_S_S4 (constantI S_ 32 4#32))) o)
/-- The reference's result. -/
def refOut {α : Type} (x : S4x1024x1024.Idx → α) (pi : IVec S4 32) : S4x1024x1024.Idx → α :=
  Host.gather gather_S4x1024x1024_S4x1_S4x1024x1024_12_0_n_n_0_1_110241024 x (starts (order pi))

/-- @main's operations, in order. -/
abbrev ops : List (HloOp τ sig (Elt F)) :=
  [ TRef.nullary (.of main_call0_v0) (iotaInDim S4 32 0),
    TRef.binary (.of main_arg1) (.of main_call0_v0) (.of main_call0_v1_0) (fun x y => (Host.sort2 S4 0 comparator_i32_i32_d0 x y).1),
    TRef.binary (.of main_arg1) (.of main_call0_v0) (.of main_v0) (fun x y => (Host.sort2 S4 0 comparator_i32_i32_d0 x y).2),
    nullary main_c (constantI S_ 32 0#32),
    unary main_c main_v1 (broadcastInDim S4 ![] bcast_S_S4),
    binary main_v0 main_v1 main_v2 (cmpi .slt),
    nullary main_c_0 (constantI S_ 32 4#32),
    unary main_c_0 main_v3 (broadcastInDim S4 ![] bcast_S_S4),
    binary main_v0 main_v3 main_v4 addi,
    ternary main_v2 main_v4 main_v0 main_v5 select,
    unary main_v5 main_v6 (broadcastInDim S4x1 ![0] bcast_S4_S4x1_0),
    binary main_arg0 main_v6 main_v7 (fun x i => Host.gather gather_S4x1024x1024_S4x1_S4x1024x1024_12_0_n_n_0_1_110241024 x i) ]

/-- @main is that straight line. -/
theorem main_eq (c : Dev nD) : main (F := F) c = seq ops := rfl

theorem out_eq (V : Valuation τ sig (Elt F)) :
    after ops V (main_v7 : DevRef τ sig) = refOut (V (main_arg0 : DevRef τ sig)) (V (main_arg1 : DevRef τ sig)) := by
  after_results
  rfl
theorem x_eq (V : Valuation τ sig (Elt F)) : after ops V (main_arg0 : DevRef τ sig) = V (main_arg0 : DevRef τ sig) := by
  after_results
theorem pi_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub ..⟩

/-- For any float values, from any memory with zero counters: every weakly fair execution of the reference ends with its
    result in place, its arguments unchanged and every semaphore counter zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v7) = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v7).trans (out_eq _), (h c main_arg0).trans (x_eq _), (h c main_arg1).trans (pi_eq _)⟩, sem_eq_zero_of_no_sems rfl r.2⟩)
    (run_seq scopedRefs_eq scopedSems_eq defs main (fun _ => ops) main_eq (fun _ => ops_sub) m ρ)

/-! ## At a permutation -/

open Cert.Peers (w4)

variable (σ : Equiv.Perm (Fin 4))

theorem slt_w4 : ∀ a b : Fin 4, (IntOp.cmpi .slt (w4 a) (w4 b) == 1#1) = decide (a.val < b.val) := by decide

/-- Sorting the places by `σ` puts place `σ⁻¹ r` at `r`. -/
theorem sorted_perm (r : Fin 4) : sortedFrom (fun a b : Fin 4 => decide ((σ a).val < (σ b).val)) r = σ.symm r := by
  have hl : r.val < (List.ofFn σ.symm).length := by rw [List.length_ofFn]; exact r.isLt
  rw [SortNet.sortedFrom_eq_getElem_of_pairwise_lt (fun a => (σ a).val) (List.ofFn σ.symm) (Equiv.Perm.ofFn_comp_perm σ.symm fun i => i)
    (by rw [List.pairwise_ofFn]; intro i j h; rw [Equiv.apply_symm_apply, Equiv.apply_symm_apply]; exact h) r hl, List.getElem_ofFn]

theorem order_perm : order (fun i => w4 (σ (i 0))) = fun i => w4 (σ.symm (i 0)) := by
  funext i
  unfold order Host.sort2
  rw [dif_pos (show 0 < S4.rank by decide)]
  have hb : (fun k k' : Fin 4 => (comparator_i32_i32_d0 (w4 (σ k), w4 k) (w4 (σ k'), w4 k') == 1#1))
      = fun k k' => decide ((σ k).val < (σ k').val) := by
    funext k k'; exact slt_w4 _ _
  exact (congrArg (fun B : Fin 4 → Fin 4 → Bool => w4 (sortedFrom B (i 0))) hb).trans (congrArg w4 (sorted_perm σ (i 0)))

theorem starts_w4 (f : Fin 4 → Fin 4) : starts (fun i => w4 (f (i 0))) = fun i => w4 (f (i 0)) := by
  have h : ∀ a : Fin 4, (Scalar.select (Scalar.cmpi .slt (w4 a) 0#32) (Scalar.addi (w4 a) 4#32) (w4 a) : BitVec 32) = w4 a := by decide
  funext i
  exact h (f (i 0))

/-- The index row `j` of the result reads: row `f j`, the rest kept. -/
def rowIdx (f : Fin 4 → Fin 4) (i : S4x1024x1024.Idx) : S4x1024x1024.Idx :=
  fun | ⟨0, _⟩ => f (i 0) | ⟨1, _⟩ => i 1 | ⟨2, _⟩ => i 2

theorem clamp_w4 : ∀ a : Fin 4, min (w4 a).toInt.toNat 3 = a.val := by decide

theorem gather_rows {α : Type} (f : Fin 4 → Fin 4) (x : S4x1024x1024.Idx → α) :
    Host.gather gather_S4x1024x1024_S4x1_S4x1024x1024_12_0_n_n_0_1_110241024 x (fun i => w4 (f (i 0))) = fun i => x (rowIdx f i) := by
  funext i
  refine congrArg x (funext fun a => Fin.ext ?_)
  match a with
  | ⟨0, _⟩ => exact clamp_w4 (f (i 0))
  | ⟨1, _⟩ => exact Nat.zero_add _
  | ⟨2, _⟩ => exact Nat.zero_add _

/-- Row `j` of the reference's result is row `σ⁻¹ j` of `x`. -/
theorem refOut_perm {α : Type} (x : S4x1024x1024.Idx → α) : refOut x (fun i => w4 (σ (i 0))) = fun i => x (rowIdx σ.symm i) := by
  unfold refOut
  rw [order_perm, starts_w4, gather_rows]

end Cert.RefRun

end
-- ==== Proof.Value.lean ====
/-
  What is claimed, for any float values and any permutation: a precondition that pins the table to a permutation's words
  gives the kernel's run a table; and device `c`'s result, the block of the device that sends to it, is `c`'s block of the
  reference's result.
-/
module

public import proofs.«01_k».proof.Proof.Launch
public import proofs.«01_k».proof.Proof.Ref
public import Idealize.ShloMosaic.Lib.Layout

@[expose] public section

noncomputable section

namespace Cert.Value

open Idealize.ShloMosaic Idealize.ShloMosaic.TcCoe Idealize.SL.Sem
open Cert.Peers Cert.Shuffle

variable {F : FTy → Type} [FloatOps F]

/-- The shape of the table. -/
abbrev T4 : Shape := ⟨1, ![4]⟩
/-- One device's block and the whole array. -/
abbrev SB : Shape := ⟨3, ![1, 1024, 1024]⟩
abbrev SW : Shape := ⟨3, ![4, 1024, 1024]⟩

/-! ## The precondition -/

/-- Four words that are a permutation of 0, 1, 2, 3. -/
abbrev IsPerm (lit : Fin 4 → BitVec 32) : Prop := (∀ j, (lit j).toNat < 4) ∧ ∀ i j, lit i = lit j → i = j

theorem perm_of_lit {lit : Fin 4 → BitVec 32} (hp : IsPerm lit) : ∃ σ : Equiv.Perm (Fin 4), ∀ j, lit j = w4 (σ j) := by
  have hw : ∀ j, lit j = w4 ⟨(lit j).toNat, hp.1 j⟩ := fun j => BitVec.eq_of_toNat_eq (by show _ = (BitVec.ofNat 32 (lit j).toNat).toNat; rw [BitVec.toNat_ofNat, Nat.mod_eq_of_lt (lit j).isLt])
  refine ⟨Equiv.ofBijective (fun j => ⟨(lit j).toNat, hp.1 j⟩) (Finite.injective_iff_bijective.mp fun i j h => ?_), hw⟩
  exact hp.2 i j (BitVec.eq_of_toNat_eq (Fin.mk.inj h))

theorem rowMajor_T4 (i : T4.Idx) : T4.rowMajor i = i 0 := Fin.ext (Shape.rowMajor_val_one i)

/-- All ones means equal everywhere. -/
theorem eq_of_ones {lit : Fin 4 → BitVec 32} {pi : IVec T4 32} (h : cmpi .eq pi (fun i => lit (T4.rowMajor i)) = fun _ => 1#1) :
    pi = fun i => lit (i 0) := by
  funext i
  have h1 : IntOp.cmpi .eq (pi i) (lit (T4.rowMajor i)) = 1#1 := congrFun h i
  rw [rowMajor_T4] at h1
  by_contra hne
  have h2 : IntOp.cmpi .eq (pi i) (lit (i 0)) = 0#1 := by show BitVec.ofBool (pi i == lit (i 0)) = 0#1; rw [beq_false_of_ne hne]; rfl
  rw [h2] at h1; exact absurd h1 (by decide)

/-! ## The blocks -/

theorem lin_y : ∀ c : Fin 32, Layout.meshLin [2, 4, 4] c.val [1] = (yOf c).val := by decide

/-- A device's block of the whole array. -/
abbrev blk {α : Type} (c : Fin 32) (v : SW.Idx → α) : SB.Idx → α := Layout.blockN SB SW (Layout.meshBlock [2, 4, 4] ![[1], [], []] c) v

theorem idx_row (h : Layout.TilesN SB SW (fun b => Layout.cutSize [2, 4, 4] ((![[1], [], []] : Fin 3 → List Nat) b))) (c : Fin 32) (i : SB.Idx) :
    (h.idx (Layout.meshBlock [2, 4, 4] ![[1], [], []] c) i) 0 = yOf c := by
  apply Fin.ext
  have hi : (i 0).val < 1 := (i 0).isLt
  show Layout.meshLin [2, 4, 4] c.val [1] * 1 + (i 0).val = (yOf c).val
  rw [lin_y]; omega

variable (σ : Equiv.Perm (Fin 4))

/-- Reading the whole array's row `σ⁻¹ y` in place of `y`, device `c`'s block is its sender's. -/
theorem blk_perm {α : Type} (c : Fin 32) (x : SW.Idx → α) : blk c (fun i => x (RefRun.rowIdx σ.symm i)) = blk (src σ c) x := by
  funext i
  refine congrArg x (funext fun a => ?_)
  match a with
  | ⟨0, _⟩ =>
    refine (congrArg σ.symm (idx_row (by decide) c i)).trans ?_
    exact (yOf_at c (σ.symm (yOf c))).symm.trans (idx_row (by decide) (src σ c) i).symm
  | ⟨1, _⟩ => rfl
  | ⟨2, _⟩ => rfl

/-! ## The claims -/

section Claims

open Cert.KernelIdeal

variable (m : (ℓ : Loc nD τ sig) → Buf (Elt F) ℓ) (g : Dev nD → PrngReg)

/-- Every device's table is all equal to the words `lit`. -/
abbrev Pinned (lit : Fin 4 → BitVec 32) : Prop :=
  ∀ c : Dev nD, cmpi .eq (m ((c.tc : Thread nD τ).loc main_arg1) : IVec T4 32) (fun i => lit (T4.rowMajor i)) = fun _ => 1#1

omit [FloatOps F] in
/-- Then every device's table is one permutation. -/
theorem pinned_perm {lit : Fin 4 → BitVec 32} (hp : IsPerm lit) (h : Pinned m lit) :
    ∃ σ : Equiv.Perm (Fin 4), ∀ c : Dev nD, (m ((c.tc : Thread nD τ).loc main_arg1) : IVec T4 32) = fun i => w4 (σ (i 0)) := by
  obtain ⟨σ, hσ⟩ := perm_of_lit hp
  exact ⟨σ, fun c => (eq_of_ones (h c)).trans (funext fun i => hσ (i 0))⟩

omit [FloatOps F] in
theorem table_of {σ : Equiv.Perm (Fin 4)} (h : ∀ c : Dev nD, (m ((c.tc : Thread nD τ).loc main_arg1) : IVec T4 32) = fun i => w4 (σ (i 0))) :
    Table (F := F) σ m := fun c j => by
  rw [show (m ((c : Thread nD τ).loc main_arg1) : S4.Idx → BitVec 32) = _ from h c]
  exact congrArg (fun k => w4 (σ k)) (Fin.ext (Nat.zero_add _))

/-- The kernel's frame: it ends, the arguments unchanged and every semaphore counter zero. -/
theorem kernel_frame {lit : Fin 4 → BitVec 32} (hp : IsPerm lit) (h : Pinned m lit) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  obtain ⟨σ, hσ⟩ := pinned_perm m hp h
  exact (θ_run (defs (F := F)) _ _).mono (fun _ hr => ⟨fun c => (hr.1 c).2, hr.2⟩) (run_main σ m g (table_of m hσ))

/-- The reference's frame. -/
theorem ref_frame (m' : (ℓ : Loc Cert.ReferenceIdeal.nD Cert.ReferenceIdeal.τ Cert.ReferenceIdeal.sig) → Buf (Elt F) ℓ) (g' : Dev Cert.ReferenceIdeal.nD → PrngReg) :
    θ_run (Cert.ReferenceIdeal.defs (F := F)) (onTc (τ := Cert.ReferenceIdeal.τ) (Cert.ReferenceIdeal.main (F := F))) ⟨m', fun _ => 0, g'⟩ (fun r => (∀ c : Dev Cert.ReferenceIdeal.nD,
      r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))
      ∧ r.2.sem = fun _ => 0) :=
  (θ_run (Cert.ReferenceIdeal.defs (F := F)) _ _).mono (fun _ hr => ⟨fun c => (hr.1 c).2, hr.2⟩) (RefRun.run_main m' g')

/-- The result: from one `x` cut into blocks and one table given to every device, the kernel ends with every device holding
    its block of what the reference ends with. -/
theorem same_result (m' : (ℓ : Loc Cert.ReferenceIdeal.nD Cert.ReferenceIdeal.τ Cert.ReferenceIdeal.sig) → Buf (Elt F) ℓ) (g' : Dev Cert.ReferenceIdeal.nD → PrngReg)
    {lit : Fin 4 → BitVec 32} (hp : IsPerm lit) (h : Pinned m lit)
    (hl : ∀ c : Dev nD,
      m ((c.tc : Thread nD τ).loc main_arg0) = blk c (m' (((0 : Dev Cert.ReferenceIdeal.nD).tc : Thread Cert.ReferenceIdeal.nD Cert.ReferenceIdeal.τ).loc Cert.ReferenceIdeal.main_arg0))
      ∧ m ((c.tc : Thread nD τ).loc main_arg1) = m' (((0 : Dev Cert.ReferenceIdeal.nD).tc : Thread Cert.ReferenceIdeal.nD Cert.ReferenceIdeal.τ).loc Cert.ReferenceIdeal.main_arg1)) :
    ∃ v0 : Buf (Elt F) (((0 : Dev Cert.ReferenceIdeal.nD).tc : Thread Cert.ReferenceIdeal.nD Cert.ReferenceIdeal.τ).loc Cert.ReferenceIdeal.main_v7),
      θ_run (defs (F := F)) (onTc (τ := τ) (main (F := F))) ⟨m, fun _ => 0, g⟩ (fun r => ∀ c : Dev nD,
          r.2.mem ((c.tc : Thread nD τ).loc main_v1) = blk c v0
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceIdeal.defs (F := F)) (onTc (τ := Cert.ReferenceIdeal.τ) (Cert.ReferenceIdeal.main (F := F))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  obtain ⟨σ, hσ⟩ := pinned_perm m hp h
  refine ⟨_, (θ_run (defs (F := F)) _ _).mono (fun _ hr c => ⟨(hr.1 c).1.trans ?_, (hr.1 c).2⟩) (run_main σ m g (table_of m hσ)),
    (θ_run (Cert.ReferenceIdeal.defs (F := F)) _ _).mono (fun _ hr => hr.1 0) (RefRun.run_main m' g')⟩
  refine (show landed σ m c = blk (src σ c) _ from (hl (src σ c)).1).trans ?_
  rw [← blk_perm σ c, ← RefRun.refOut_perm]
  exact congrArg (fun pi : IVec T4 32 => blk c (RefRun.refOut _ pi)) ((hσ 0).symm.trans (hl 0).2)

end Claims

end Cert.Value

end
-- ==== Proof.Same.lean ====
/-
  A program at its own float values and the one read at the extended reals have one text; what is proved of the latter for
  any float values holds of the former. The kernel's body tables agree label by label; the reference's are empty.
-/
module

public import proofs.«01_k».proof.Proof.Value
public import proofs.«01_k».proof.Proof.Gen.Kernel
public import proofs.«01_k».proof.Proof.Gen.Reference

@[expose] public section

noncomputable section

namespace Cert.Value

open Idealize.ShloMosaic Idealize.ShloMosaic.TcCoe Idealize.SL.Sem
open Cert.Kernel

variable {F : FTy → Type} [FloatOps F]

theorem bodies_same : Cert.Kernel.defs₀ (F := F) = Cert.KernelIdeal.defs₀ (F := F) := by
  unfold Cert.Kernel.defs₀ Cert.KernelIdeal.defs₀
  refine congrArg Defs.onTc (funext fun ℓ => funext fun a => ?_)
  match ℓ, a with
  | ⟨0, _⟩, (t, s) => rfl
  | ⟨_ + 1, h⟩, _ => exact absurd h (Nat.not_lt.2 (Nat.le_add_left _ _))

theorem defs_same : Cert.Kernel.defs (F := F) = Cert.KernelIdeal.defs (F := F) := congrArg (Pipeline.defs (pcfgs (F := F))) bodies_same

/-- The kernel's frame, of the program at its own float values. -/
theorem kernel_frame_own (m : (ℓ : Loc nD τ sig) → Buf (Elt F) ℓ) (g : Dev nD → PrngReg) {lit : Fin 4 → BitVec 32} (hp : IsPerm lit) (h : Pinned m lit) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_same]
  exact kernel_frame m g hp h

theorem ref_bodies_same : Cert.Reference.defs₀ (F := F) = Cert.ReferenceIdeal.defs₀ (F := F) := by
  unfold Cert.Reference.defs₀ Cert.ReferenceIdeal.defs₀
  exact congrArg Defs.onTc (funext fun ℓ => ℓ.elim0)

theorem ref_defs_same : Cert.Reference.defs (F := F) = Cert.ReferenceIdeal.defs (F := F) :=
  congrArg (Pipeline.defs (Cert.Reference.pcfgs (F := F))) ref_bodies_same

/-- The reference's frame, of the reference at its own float values. -/
theorem ref_frame_own (m' : (ℓ : Loc Cert.Reference.nD Cert.Reference.τ Cert.Reference.sig) → Buf (Elt F) ℓ) (g' : Dev Cert.Reference.nD → PrngReg) :
    θ_run (Cert.Reference.defs (F := F)) (onTc (τ := Cert.Reference.τ) (Cert.Reference.main (F := F))) ⟨m', fun _ => 0, g'⟩ (fun r => (∀ c : Dev Cert.Reference.nD,
      r.2.mem ((c.tc : Thread Cert.Reference.nD Cert.Reference.τ).loc Cert.Reference.main_arg0) = m' ((c.tc : Thread Cert.Reference.nD Cert.Reference.τ).loc Cert.Reference.main_arg0)
      ∧ r.2.mem ((c.tc : Thread Cert.Reference.nD Cert.Reference.τ).loc Cert.Reference.main_arg1) = m' ((c.tc : Thread Cert.Reference.nD Cert.Reference.τ).loc Cert.Reference.main_arg1))
      ∧ r.2.sem = fun _ => 0) := by
  rw [ref_defs_same]
  exact ref_frame m' g'

/-- The result, of both at their own float values: bit for bit. -/
theorem same_result_own (m : (ℓ : Loc nD τ sig) → Buf (Elt F) ℓ) (g : Dev nD → PrngReg)
    (m' : (ℓ : Loc Cert.Reference.nD Cert.Reference.τ Cert.Reference.sig) → Buf (Elt F) ℓ) (g' : Dev Cert.Reference.nD → PrngReg)
    {lit : Fin 4 → BitVec 32} (hp : IsPerm lit) (h : Pinned m lit)
    (hl : ∀ c : Dev nD,
      m ((c.tc : Thread nD τ).loc main_arg0) = blk c (m' (((0 : Dev Cert.Reference.nD).tc : Thread Cert.Reference.nD Cert.Reference.τ).loc Cert.Reference.main_arg0))
      ∧ m ((c.tc : Thread nD τ).loc main_arg1) = m' (((0 : Dev Cert.Reference.nD).tc : Thread Cert.Reference.nD Cert.Reference.τ).loc Cert.Reference.main_arg1)) :
    ∃ v0 : Buf (Elt F) (((0 : Dev Cert.Reference.nD).tc : Thread Cert.Reference.nD Cert.Reference.τ).loc Cert.Reference.main_v7),
      θ_run (defs (F := F)) (onTc (τ := τ) (main (F := F))) ⟨m, fun _ => 0, g⟩ (fun r => ∀ c : Dev nD,
          r.2.mem ((c.tc : Thread nD τ).loc main_v1) = blk c v0
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.Reference.defs (F := F)) (onTc (τ := Cert.Reference.τ) (Cert.Reference.main (F := F))) ⟨m', fun _ => 0, g'⟩ (fun r =>
          r.2.mem (((0 : Dev Cert.Reference.nD).tc : Thread Cert.Reference.nD Cert.Reference.τ).loc Cert.Reference.main_v7) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)) := by
  rw [defs_same, ref_defs_same]
  exact same_result m g m' g' hp h hl

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.ReferenceIdeal
public import proofs.«01_k».proof.Proof.Gen.Pre_perm_0123_Kernel
public import proofs.«01_k».proof.Proof.Gen.Pre_perm_0132_Kernel
public import proofs.«01_k».proof.Proof.Gen.Pre_perm_0213_Kernel
public import proofs.«01_k».proof.Proof.Gen.Pre_perm_0231_Kernel
public import proofs.«01_k».proof.Proof.Gen.Pre_perm_0312_Kernel
public import proofs.«01_k».proof.Proof.Gen.Pre_perm_0321_Kernel
public import proofs.«01_k».proof.Proof.Gen.Pre_perm_1023_Kernel
public import proofs.«01_k».proof.Proof.Gen.Pre_perm_1032_Kernel
public import proofs.«01_k».proof.Proof.Gen.Pre_perm_1203_Kernel
public import proofs.«01_k».proof.Proof.Gen.Pre_perm_1230_Kernel
public import proofs.«01_k».proof.Proof.Gen.Pre_perm_1302_Kernel
public import proofs.«01_k».proof.Proof.Gen.Pre_perm_1320_Kernel
public import proofs.«01_k».proof.Proof.Gen.Pre_perm_2013_Kernel
public import proofs.«01_k».proof.Proof.Gen.Pre_perm_2031_Kernel
public import proofs.«01_k».proof.Proof.Gen.Pre_perm_2103_Kernel
public import proofs.«01_k».proof.Proof.Gen.Pre_perm_2130_Kernel
public import proofs.«01_k».proof.Proof.Gen.Pre_perm_2301_Kernel
public import proofs.«01_k».proof.Proof.Gen.Pre_perm_2310_Kernel
public import proofs.«01_k».proof.Proof.Gen.Pre_perm_3012_Kernel
public import proofs.«01_k».proof.Proof.Gen.Pre_perm_3021_Kernel
public import proofs.«01_k».proof.Proof.Gen.Pre_perm_3102_Kernel
public import proofs.«01_k».proof.Proof.Gen.Pre_perm_3120_Kernel
public import proofs.«01_k».proof.Proof.Gen.Pre_perm_3201_Kernel
public import proofs.«01_k».proof.Proof.Gen.Pre_perm_3210_Kernel
public import proofs.«01_k».proof.Proof.Gen.Pre_perm_0123_Reference
public import proofs.«01_k».proof.Proof.Gen.Pre_perm_0132_Reference
public import proofs.«01_k».proof.Proof.Gen.Pre_perm_0213_Reference
public import proofs.«01_k».proof.Proof.Gen.Pre_perm_0231_Reference
public import proofs.«01_k».proof.Proof.Gen.Pre_perm_0312_Reference
public import proofs.«01_k».proof.Proof.Gen.Pre_perm_0321_Reference
public import proofs.«01_k».proof.Proof.Gen.Pre_perm_1023_Reference
public import proofs.«01_k».proof.Proof.Gen.Pre_perm_1032_Reference
public import proofs.«01_k».proof.Proof.Gen.Pre_perm_1203_Reference
public import proofs.«01_k».proof.Proof.Gen.Pre_perm_1230_Reference
public import proofs.«01_k».proof.Proof.Gen.Pre_perm_1302_Reference
public import proofs.«01_k».proof.Proof.Gen.Pre_perm_1320_Reference
public import proofs.«01_k».proof.Proof.Gen.Pre_perm_2013_Reference
public import proofs.«01_k».proof.Proof.Gen.Pre_perm_2031_Reference
public import proofs.«01_k».proof.Proof.Gen.Pre_perm_2103_Reference
public import proofs.«01_k».proof.Proof.Gen.Pre_perm_2130_Reference
public import proofs.«01_k».proof.Proof.Gen.Pre_perm_2301_Reference
public import proofs.«01_k».proof.Proof.Gen.Pre_perm_2310_Reference
public import proofs.«01_k».proof.Proof.Gen.Pre_perm_3012_Reference
public import proofs.«01_k».proof.Proof.Gen.Pre_perm_3021_Reference
public import proofs.«01_k».proof.Proof.Gen.Pre_perm_3102_Reference
public import proofs.«01_k».proof.Proof.Gen.Pre_perm_3120_Reference
public import proofs.«01_k».proof.Proof.Gen.Pre_perm_3201_Reference
public import proofs.«01_k».proof.Proof.Gen.Pre_perm_3210_Reference
public import proofs.«01_k».proof.Proof.Same
public import Idealize.ShloMosaic.Adequacy
public import Idealize.ShloMosaic.Init

@[expose] public section

noncomputable section

namespace Cert.Proof

open Idealize.ShloMosaic Idealize.SL.Sem Cert.Kernel

set_option maxHeartbeats 4000000 in
theorem claim : Cert.Claim := ⟨Cert.Kernel.Gen.facts, Cert.KernelIdeal.Gen.facts, Cert.Reference.Gen.facts, Cert.ReferenceIdeal.Gen.facts, Cert.Pre_perm_0123_Kernel.Gen.facts, Cert.Pre_perm_0132_Kernel.Gen.facts, Cert.Pre_perm_0213_Kernel.Gen.facts, Cert.Pre_perm_0231_Kernel.Gen.facts, Cert.Pre_perm_0312_Kernel.Gen.facts, Cert.Pre_perm_0321_Kernel.Gen.facts, Cert.Pre_perm_1023_Kernel.Gen.facts, Cert.Pre_perm_1032_Kernel.Gen.facts, Cert.Pre_perm_1203_Kernel.Gen.facts, Cert.Pre_perm_1230_Kernel.Gen.facts, Cert.Pre_perm_1302_Kernel.Gen.facts, Cert.Pre_perm_1320_Kernel.Gen.facts, Cert.Pre_perm_2013_Kernel.Gen.facts, Cert.Pre_perm_2031_Kernel.Gen.facts, Cert.Pre_perm_2103_Kernel.Gen.facts, Cert.Pre_perm_2130_Kernel.Gen.facts, Cert.Pre_perm_2301_Kernel.Gen.facts, Cert.Pre_perm_2310_Kernel.Gen.facts, Cert.Pre_perm_3012_Kernel.Gen.facts, Cert.Pre_perm_3021_Kernel.Gen.facts, Cert.Pre_perm_3102_Kernel.Gen.facts, Cert.Pre_perm_3120_Kernel.Gen.facts, Cert.Pre_perm_3201_Kernel.Gen.facts, Cert.Pre_perm_3210_Kernel.Gen.facts, Cert.Pre_perm_0123_Reference.Gen.facts, Cert.Pre_perm_0132_Reference.Gen.facts, Cert.Pre_perm_0213_Reference.Gen.facts, Cert.Pre_perm_0231_Reference.Gen.facts, Cert.Pre_perm_0312_Reference.Gen.facts, Cert.Pre_perm_0321_Reference.Gen.facts, Cert.Pre_perm_1023_Reference.Gen.facts, Cert.Pre_perm_1032_Reference.Gen.facts, Cert.Pre_perm_1203_Reference.Gen.facts, Cert.Pre_perm_1230_Reference.Gen.facts, Cert.Pre_perm_1302_Reference.Gen.facts, Cert.Pre_perm_1320_Reference.Gen.facts, Cert.Pre_perm_2013_Reference.Gen.facts, Cert.Pre_perm_2031_Reference.Gen.facts, Cert.Pre_perm_2103_Reference.Gen.facts, Cert.Pre_perm_2130_Reference.Gen.facts, Cert.Pre_perm_2301_Reference.Gen.facts, Cert.Pre_perm_2310_Reference.Gen.facts, Cert.Pre_perm_3012_Reference.Gen.facts, Cert.Pre_perm_3021_Reference.Gen.facts, Cert.Pre_perm_3102_Reference.Gen.facts, Cert.Pre_perm_3120_Reference.Gen.facts, Cert.Pre_perm_3201_Reference.Gen.facts, Cert.Pre_perm_3210_Reference.Gen.facts,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame_own m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g h => Value.kernel_frame m g (by decide) h,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame_own m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  fun m g _ => Value.ref_frame m g,
  trivial,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl,
  fun m g m' g' h hl => Value.same_result_own m g m' g' (by decide) h hl⟩

end Cert.Proof

end
